-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x256x8192 : Shape := ⟨3, ![2, 256, 8192]⟩
abbrev S8192x6144 : Shape := ⟨2, ![8192, 6144]⟩
abbrev S64x48 : Shape := ⟨2, ![64, 48]⟩
abbrev S2x256x64x128 : Shape := ⟨4, ![2, 256, 64, 128]⟩
abbrev S_ : Shape := ⟨0, ![]⟩
abbrev S2x256x64 : Shape := ⟨3, ![2, 256, 64]⟩

class Facts : Prop where
  bitsLt_bf16_f32 : FTy.bits .bf16 < FTy.bits .f32
  shapeCasts_S2x256x8192_S2x256x64x128 : S2x256x8192.ShapeCasts S2x256x64x128
  reducesTo_S2x256x64x128_S2x256x64_d3 : S2x256x64x128.ReducesTo [3] S2x256x64
  h_S_ : 0 < S_.numel
  bcast_S_S2x256x64 : S_.BroadcastsInDim S2x256x64 (![] : Fin 0 → Fin S2x256x64.rank)
  reducesTo_S2x256x64_S_d0_1_2 : S2x256x64.ReducesTo [0, 1, 2] S_

variable [Facts]

def fn {F : FTy → Type} [FloatOps F] (main_arg0 : FVec F S2x256x8192 .bf16) (main_arg1 : FVec F S8192x6144 .fp8e4m3) (main_arg2 : FVec F S64x48 .f32) : IVec S_ 1 :=
  let main_v0 : FVec F S2x256x8192 .f32 := (extf .f32 · bitsLt_bf16_f32) main_arg0
  let main_v1 : FVec F S2x256x64x128 .f32 := shapeCast S2x256x64x128 main_v0 shapeCasts_S2x256x8192_S2x256x64x128
  let main_v2 : FVec F S2x256x64x128 .f32 := Host.absf main_v1
  let main_cst : FVec F S_ .f32 := constant S_ .f32 0xFF800000#32
  let main_v3 : FVec F S2x256x64 .f32 := (fun x v => Host.reduce FloatOps.maximumf x v reducesTo_S2x256x64x128_S2x256x64_d3 h_S_) main_v2 main_cst
  let main_cst_0 : FVec F S_ .f32 := constant S_ .f32 0x3B124925#32
  let main_v4 : FVec F S2x256x64 .f32 := broadcastInDim S2x256x64 ![] bcast_S_S2x256x64 main_cst_0
  let main_v5 : FVec F S2x256x64 .f32 := mulf main_v3 main_v4
  let main_cst_1 : FVec F S_ .f32 := constant S_ .f32 0x00000000#32
  let main_v6 : FVec F S2x256x64 .f32 := broadcastInDim S2x256x64 ![] bcast_S_S2x256x64 main_cst_1
  let main_v7 : IVec S2x256x64 1 := cmpf .oeq main_v5 main_v6
  let main_cst_2 : FVec F S_ .f32 := constant S_ .f32 0x00400000#32
  let main_v8 : FVec F S2x256x64 .f32 := broadcastInDim S2x256x64 ![] bcast_S_S2x256x64 main_cst_2
  let main_v9 : IVec S2x256x64 1 := cmpf .oge main_v5 main_v8
  let main_cst_3 : FVec F S_ .f32 := constant S_ .f32 0x7E800000#32
  let main_v10 : FVec F S2x256x64 .f32 := broadcastInDim S2x256x64 ![] bcast_S_S2x256x64 main_cst_3
  let main_v11 : IVec S2x256x64 1 := cmpf .olt main_v5 main_v10
  let main_v12 : IVec S2x256x64 1 := andi main_v9 main_v11
  let main_v13 : IVec S2x256x64 1 := ori main_v7 main_v12
  let main_c : IVec S_ 1 := constantI S_ 1 1#1
  let main_v14 : IVec S_ 1 := (fun x v => Host.reduce IntOp.andi x v reducesTo_S2x256x64_S_d0_1_2 h_S_) main_v13 main_c
  main_v14
-- ==== Kernel.lean ====
abbrev S2x256x8192 : Shape := ⟨3, ![2, 256, 8192]⟩
abbrev S8192x6144 : Shape := ⟨2, ![8192, 6144]⟩
abbrev S64x48 : Shape := ⟨2, ![64, 48]⟩
abbrev S512x8192 : Shape := ⟨2, ![512, 8192]⟩
abbrev S48x64 : Shape := ⟨2, ![48, 64]⟩
abbrev S64x8x6144 : Shape := ⟨3, ![64, 8, 6144]⟩
abbrev S2x64x256 : Shape := ⟨3, ![2, 64, 256]⟩
abbrev S8192x512 : Shape := ⟨2, ![8192, 512]⟩
abbrev S64x8x512 : Shape := ⟨3, ![64, 8, 512]⟩
abbrev S64x512x128 : Shape := ⟨3, ![64, 512, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S1x512x128 : Shape := ⟨3, ![1, 512, 128]⟩
abbrev S128x512 : Shape := ⟨2, ![128, 512]⟩
abbrev S64x256 : Shape := ⟨2, ![64, 256]⟩
abbrev S1x64x256 : Shape := ⟨3, ![1, 64, 256]⟩
abbrev S128x128 : Shape := ⟨2, ![128, 128]⟩
abbrev S128x256 : Shape := ⟨2, ![128, 256]⟩
abbrev S1x128x128 : Shape := ⟨3, ![1, 128, 128]⟩
abbrev S1x1 : Shape := ⟨2, ![1, 1]⟩
abbrev S16x8x128 : Shape := ⟨3, ![16, 8, 128]⟩
abbrev S2x256x6144 : Shape := ⟨3, ![2, 256, 6144]⟩
abbrev S2x256x64 : Shape := ⟨3, ![2, 256, 64]⟩

abbrev nBuf : Space → Nat
  | .hbm => 11
  | .vmem => 9
  | .smem => 1
  | _ => 0

abbrev bufTy : (tb : Table) → Fin (tcTables nBuf tb) → BufTy
  | .hbm, ⟨0, _⟩ => ⟨S2x256x8192, .bf16⟩
  | .hbm, ⟨1, _⟩ => ⟨S8192x6144, .fp8e4m3⟩
  | .hbm, ⟨2, _⟩ => ⟨S64x48, .f32⟩
  | .hbm, ⟨3, _⟩ => ⟨S512x8192, .bf16⟩
  | .hbm, ⟨4, _⟩ => ⟨S48x64, .f32⟩
  | .hbm, ⟨5, _⟩ => ⟨S64x8x6144, .bf16⟩
  | .hbm, ⟨6, _⟩ => ⟨S512x8192, .fp8e4m3⟩
  | .hbm, ⟨7, _⟩ => ⟨S2x64x256, .f32⟩
  | .hbm, ⟨8, _⟩ => ⟨S2x256x6144, .bf16⟩
  | .hbm, ⟨9, _⟩ => ⟨S2x256x8192, .fp8e4m3⟩
  | .hbm, ⟨10, _⟩ => ⟨S2x256x64, .f32⟩
  | .local _ .vmem, ⟨0, _⟩ => ⟨S512x8192, .bf16⟩
  | .local _ .vmem, ⟨1, _⟩ => ⟨S8192x512, .fp8e4m3⟩
  | .local _ .vmem, ⟨2, _⟩ => ⟨S8192x512, .fp8e4m3⟩
  | .local _ .vmem, ⟨3, _⟩ => ⟨S64x8x512, .bf16⟩
  | .local _ .vmem, ⟨4, _⟩ => ⟨S64x8x512, .bf16⟩
  | .local _ .vmem, ⟨5, _⟩ => ⟨S512x8192, .fp8e4m3⟩
  | .local _ .vmem, ⟨6, _⟩ => ⟨S2x64x256, .f32⟩
  | .local _ .vmem, ⟨7, _⟩ => ⟨S64x512x128, .f32⟩
  | .local _ .vmem, ⟨8, _⟩ => ⟨S512x128, .f32⟩
  | .local _ .smem, ⟨0, _⟩ => ⟨S48x64, .f32⟩
  | _, _ => ⟨S2x256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8129 : BitVec 32 := 0#32
  let c64_i32 : BitVec 32 := 64#32
  let v13384 : BitVec 32 := Scalar.addi c0_i32_8129 c64_i32
  let c1_i32_8130 : BitVec 32 := 1#32
  ⟨c0_i32_8129, v13384, c1_i32_8130⟩
def k0_mult1 (k0_t1 : Fin k0_t1_loop.trips) : BitVec 32 :=
  let c0_i32_8129 : BitVec 32 := 0#32
  let c1_i32_8130 : BitVec 32 := 1#32
  let arg9 : BitVec 32 := Scf.iv c0_i32_8129 c1_i32_8130 k0_t1
  let c128_i32 : BitVec 32 := 128#32
  let v13395 : BitVec 32 := Scalar.muli arg9 c128_i32
  v13395
def k0_off1 (k0_t1 : Fin k0_t1_loop.trips) : Fin 2 → Nat :=
  let c0_8140 : Index := 0#32
  let c0_i32_8129 : BitVec 32 := 0#32
  let c1_i32_8130 : BitVec 32 := 1#32
  let arg9 : BitVec 32 := Scf.iv c0_i32_8129 c1_i32_8130 k0_t1
  let c128_i32 : BitVec 32 := 128#32
  let v13395 : BitVec 32 := Scalar.muli arg9 c128_i32
  let v13396 : BitVec 32 := v13395
  let v13397 : Index := Scalar.indexCast v13396
  ![0, v13397.toNat]
def k0_off2 (k0_t1 : Fin k0_t1_loop.trips) : Fin 3 → Nat :=
  let c0_i32_8129 : BitVec 32 := 0#32
  let c1_i32_8130 : BitVec 32 := 1#32
  let arg9 : BitVec 32 := Scf.iv c0_i32_8129 c1_i32_8130 k0_t1
  let v13447 : Index := Scalar.indexCast arg9
  let c0_8155 : Index := 0#32
  let c0_8156 : Index := 0#32
  ![v13447.toNat, 0, 0]
def k0_off3 (i : grid0.Coords) (c0_i32_9 : BitVec 32) (c0_i32_10 : BitVec 32) : Fin 2 → Nat :=
  let arg0 : BitVec 32 := BitVec.ofNat 32 (i 0).val
  let c4_i32 : BitVec 32 := 4#32
  let v11 : BitVec 32 := Scalar.muli arg0 c4_i32
  let v12 : BitVec 32 := Scalar.addi v11 c0_i32_9
  let v13 : BitVec 32 := Scalar.addi v12 c0_i32_10
  let v14 : Index := Scalar.indexCast v13
  let c0_11 : Index := 0#32
  ![v14.toNat, 0]
def k0_off4 (i : grid0.Coords) (c0_i32_22 : BitVec 32) (c0_i32_23 : BitVec 32) : Fin 2 → Nat :=
  let arg0 : BitVec 32 := BitVec.ofNat 32 (i 0).val
  let c4_i32_21 : BitVec 32 := 4#32
  let v37 : BitVec 32 := Scalar.muli arg0 c4_i32_21
  let v38 : BitVec 32 := Scalar.addi v37 c0_i32_22
  let v39 : BitVec 32 := Scalar.addi v38 c0_i32_23
  let v40 : Index := Scalar.indexCast v39
  let c1_24 : Index := 1#32
  ![v40.toNat, 1]
def k0_off5 (i : grid0.Coords) (c0_i32_36 : BitVec 32) (c0_i32_37 : BitVec 32) : Fin 2 → Nat :=
  let arg0 : BitVec 32 := BitVec.ofNat 32 (i 0).val
  let c4_i32_35 : BitVec 32 := 4#32
  let v63 : BitVec 32 := Scalar.muli arg0 c4_i32_35
  let v64 : BitVec 32 := Scalar.addi v63 c0_i32_36
  let v65 : BitVec 32 := Scalar.addi v64 c0_i32_37
  let v66 : Index := Scalar.indexCast v65
  let c2_38 : Index := 2#32
  ![v66.toNat, 2]
def k0_off6 (i : grid0.Coords) (c0_i32_50 : BitVec 32) (c0_i32_51 : BitVec 32) : Fin 2 → Nat :=
  let arg0 : BitVec 32 := BitVec.ofNat 32 (i 0).val
  let c4_i32_49 : BitVec 32 := 4#32
  let v89 : BitVec 32 := Scalar.muli arg0 c4_i32_49
  let v90 : BitVec 32 := Scalar.addi v89 c0_i32_50
  let v91 : BitVec 32 := Scalar.addi v90 c0_i32_51
  let v92 : Index := Scalar.indexCast v91
  let c3_52 : Index := 3#32
  ![v92.toNat, 3]
def k0_off7 (i : grid0.Coords) (c0_i32_64 : BitVec 32) (c0_i32_65 : BitVec 32) : Fin 2 → Nat :=
  let arg0 : BitVec 32 := BitVec.ofNat 32 (i 0).val
  let c4_i32_63 : BitVec 32 := 4#32
  let v115 : BitVec 32 := Scalar.muli arg0 c4_i32_63
  let v116 : BitVec 32 := Scalar.addi v115 c0_i32_64
  let v117 : BitVec 32 := Scalar.addi v116 c0_i32_65
  let v118 : Index := Scalar.indexCast v117
  let c4_66 : Index := 4#32
  ![v118.toNat, 4]
def k0_off8 (i : grid0.Coords) (c0_i32_78 : BitVec 32) (c0_i32_79 : BitVec 32) : Fin 2 → Nat :=
  let arg0 : BitVec 32 := BitVec.ofNat 32 (i 0).val
  let c4_i32_77 : BitVec 32 := 4#32
  let v141 : BitVec 32 := Scalar.muli arg0 c4_i32_77
  let v142 : BitVec 32 := Scalar.addi v141 c0_i32_78
  let v143 : BitVec 32 := Scalar.addi v142 c0_i32_79
  let v144 : Index := Scalar.indexCast v143
  let c5_80 : Index := 5#32
  ![v144.toNat, 5]
def k0_off9 (i : grid0.Coords) (c0_i32_92 : BitVec 32) (c0_i32_93 : BitVec 32) : Fin 2 → Nat :=
  let arg0 : BitVec 32 := BitVec.ofNat 32 (i 0).val
  let c4_i32_91 : BitVec 32 := 4#32
  let v167 : BitVec 32 := Scalar.muli arg0 c4_i32_91
  let v168 : BitVec 32 := Scalar.addi v167 c0_i32_92
  let v169 : BitVec 32 := Scalar.addi v168 c0_i32_93
  let v170 : Index := Scalar.indexCast v169
  let c6_94 : Index := 6#32
  ![v170.toNat, 6]
def k0_off10 (i : grid0.Coords) (c0_i32_106 : BitVec 32) (c0_i32_107 : BitVec 32) : Fin 2 → Nat :=
  let arg0 : BitVec 32 := BitVec.ofNat 32 (i 0).val
  let c4_i32_105 : BitVec 32 := 4#32
  let v193 : BitVec 32 := Scalar.muli arg0 c4_i32_105
  let v194 : BitVec 32 := Scalar.addi v193 c0_i32_106
  let v195 : BitVec 32 := Scalar.addi v194 c0_i32_107
  let v196 : Index := Scalar.indexCast v195
  let c7_108 : Index := 7#32
  ![v196.toNat, 7]
def k0_off11 (i : grid0.Coords) (c0_i32_120 : BitVec 32) (c0_i32_121 : BitVec 32) : Fin 2 → Nat :=
  let arg0 : BitVec 32 := BitVec.ofNat 32 (i 0).val
  let c4_i32_119 : BitVec 32 := 4#32
  let v219 : BitVec 32 := Scalar.muli arg0 c4_i32_119
  let v220 : BitVec 32 := Scalar.addi v219 c0_i32_120
  let v221 : BitVec 32 := Scalar.addi v220 c0_i32_121
  let v222 : Index := Scalar.indexCast v221
  let c8_122 : Index := 8#32
  ![v222.toNat, 8]
def k0_off12 (i : grid0.Coords) (c0_i32_134 : BitVec 32) (c0_i32_135 : BitVec 32) : Fin 2 → Nat :=
  let arg0 : BitVec 32 := BitVec.ofNat 32 (i 0).val
  let c4_i32_133 : BitVec 32 := 4#32
  let v245 : BitVec 32 := Scalar.muli arg0 c4_i32_133
  let v246 : BitVec 32 := Scalar.addi v245 c0_i32_134
  let v247 : BitVec 32 := Scalar.addi v246 c0_i32_135
  let v248 : Index := Scalar.indexCast v247
  let c9_136 : Index := 9#32
  ![v248.toNat, 9]
def k0_off13 (i : grid0.Coords) (c0_i32_148 : BitVec 32) (c0_i32_149 : BitVec 32) : Fin 2 → Nat :=
  let arg0 : BitVec 32 := BitVec.ofNat 32 (i 0).val
  let c4_i32_147 : BitVec 32 := 4#32
  let v271 : BitVec 32 := Scalar.muli arg0 c4_i32_147
  let v272 : BitVec 32 := Scalar.addi v271 c0_i32_148
  let v273 : BitVec 32 := Scalar.addi v272 c0_i32_149
  let v274 : Index := Scalar.indexCast v273
  let c10_150 : Index := 10#32
  ![v274.toNat, 10]
def k0_off14 (i : grid0.Coords) (c0_i32_162 : BitVec 32) (c0_i32_163 : BitVec 32) : Fin 2 → Nat :=
  let arg0 : BitVec 32 := BitVec.ofNat 32 (i 0).val
  let c4_i32_161 : BitVec 32 := 4#32
  let v297 : BitVec 32 := Scalar.muli arg0 c4_i32_161
  let v298 : BitVec 32 := Scalar.addi v297 c0_i32_162
  let v299 : BitVec 32 := Scalar.addi v298 c0_i32_163
  let v300 : Index := Scalar.indexCast v299
  let c11_164 : Index := 11#32
  ![v300.toNat, 11]
def k0_off15 (i : grid0.Coords) (c0_i32_176 : BitVec 32) (c0_i32_177 : BitVec 32) : Fin 2 → Nat :=
  let arg0 : BitVec 32 := BitVec.ofNat 32 (i 0).val
  let c4_i32_175 : BitVec 32 := 4#32
  let v323 : BitVec 32 := Scalar.muli arg0 c4_i32_175
  let v324 : BitVec 32 := Scalar.addi v323 c0_i32_176
  let v325 : BitVec 32 := Scalar.addi v324 c0_i32_177
  let v326 : Index := Scalar.indexCast v325
  let c12_178 : Index := 12#32
  ![v326.toNat, 12]
def k0_off16 (i : grid0.Coords) (c0_i32_190 : BitVec 32) (c0_i32_191 : BitVec 32) : Fin 2 → Nat :=
  let arg0 : BitVec 32 := BitVec.ofNat 32 (i 0).val
  let c4_i32_189 : BitVec 32 := 4#32
  let v349 : BitVec 32 := Scalar.muli arg0 c4_i32_189
  let v350 : BitVec 32 := Scalar.addi v349 c0_i32_190
  let v351 : BitVec 32 := Scalar.addi v350 c0_i32_191
  let v352 : Index := Scalar.indexCast v351
  let c13_192 : Index := 13#32
  ![v352.toNat, 13]
def k0_off17 (i : grid0.Coords) (c0_i32_204 : BitVec 32) (c0_i32_205 : BitVec 32) : Fin 2 → Nat :=
  let arg0 : BitVec 32 := BitVec.ofNat 32 (i 0).val
  let c4_i32_203 : BitVec 32 := 4#32
  let v375 : BitVec 32 := Scalar.muli arg0 c4_i32_203
  let v376 : BitVec 32 := Scalar.addi v375 c0_i32_204
  let v377 : BitVec 32 := Scalar.addi v376 c0_i32_205
  let v378 : Index := Scalar.indexCast v377
  let c14_206 : Index := 14#32
  ![v378.toNat, 14]
def k0_off18 (i : grid0.Coords) (c0_i32_218 : BitVec 32) (c0_i32_219 : BitVec 32) : Fin 2 → Nat :=
  let arg0 : BitVec 32 := BitVec.ofNat 32 (i 0).val
  let c4_i32_217 : BitVec 32 := 4#32
  let v401 : BitVec 32 := Scalar.muli arg0 c4_i32_217
  let v402 : BitVec 32 := Scalar.addi v401 c0_i32_218
  let v403 : BitVec 32 := Scalar.addi v402 c0_i32_219
  let v404 : Index := Scalar.indexCast v403
  let c15_220 : Index := 15#32
  ![v404.toNat, 15]
def k0_off19 (i : grid0.Coords) (c0_i32_232 : BitVec 32) (c0_i32_233 : BitVec 32) : Fin 2 → Nat :=
  let arg0 : BitVec 32 := BitVec.ofNat 32 (i 0).val
  let c4_i32_231 : BitVec 32 := 4#32
  let v427 : BitVec 32 := Scalar.muli arg0 c4_i32_231
  let v428 : BitVec 32 := Scalar.addi v427 c0_i32_232
  let v429 : BitVec 32 := Scalar.addi v428 c0_i32_233
  let v430 : Index := Scalar.indexCast v429
  let c16_234 : Index := 16#32
  ![v430.toNat, 16]
def k0_off20 (i : grid0.Coords) (c0_i32_246 : BitVec 32) (c0_i32_247 : BitVec 32) : Fin 2 → Nat :=
  let arg0 : BitVec 32 := BitVec.ofNat 32 (i 0).val
  let c4_i32_245 : BitVec 32 := 4#32
  let v453 : BitVec 32 := Scalar.muli arg0 c4_i32_245
  let v454 : BitVec 32 := Scalar.addi v453 c0_i32_246
  let v455 : BitVec 32 := Scalar.addi v454 c0_i32_247
  let v456 : Index := Scalar.indexCast v455
  let c17_248 : Index := 17#32
  ![v456.toNat, 17]
def k0_off21 (i : grid0.Coords) (c0_i32_260 : BitVec 32) (c0_i32_261 : BitVec 32) : Fin 2 → Nat :=
  let arg0 : BitVec 32 := BitVec.ofNat 32 (i 0).val
  let c4_i32_259 : BitVec 32 := 4#32
  let v479 : BitVec 32 := Scalar.muli arg0 c4_i32_259
  let v480 : BitVec 32 := Scalar.addi v479 c0_i32_260
  let v481 : BitVec 32 := Scalar.addi v480 c0_i32_261
  let v482 : Index := Scalar.indexCast v481
  let c18_262 : Index := 18#32
  ![v482.toNat, 18]
def k0_off22 (i : grid0.Coords) (c0_i32_274 : BitVec 32) (c0_i32_275 : BitVec 32) : Fin 2 → Nat :=
  let arg0 : BitVec 32 := BitVec.ofNat 32 (i 0).val
  let c4_i32_273 : BitVec 32 := 4#32
  let v505 : BitVec 32 := Scalar.muli arg0 c4_i32_273
  let v506 : BitVec 32 := Scalar.addi v505 c0_i32_274
  let v507 : BitVec 32 := Scalar.addi v506 c0_i32_275
  let v508 : Index := Scalar.indexCast v507
  let c19_276 : Index := 19#32
  ![v508.toNat, 19]
def k0_off23 (i : grid0.Coords) (c0_i32_288 : BitVec 32) (c0_i32_289 : BitVec 32) : Fin 2 → Nat :=
  let arg0 : BitVec 32 := BitVec.ofNat 32 (i 0).val
  let c4_i32_287 : BitVec 32 := 4#32
  let v531 : BitVec 32 := Scalar.muli arg0 c4_i32_287
  let v532 : BitVec 32 := Scalar.addi v531 c0_i32_288
  let v533 : BitVec 32 := Scalar.addi v532 c0_i32_289
  let v534 : Index := Scalar.indexCast v533
  let c20_290 : Index := 20#32
  ![v534.toNat, 20]
def k0_off24 (i : grid0.Coords) (c0_i32_302 : BitVec 32) (c0_i32_303 : BitVec 32) : Fin 2 → Nat :=
  let arg0 : BitVec 32 := BitVec.ofNat 32 (i 0).val
  let c4_i32_301 : BitVec 32 := 4#32
  let v557 : BitVec 32 := Scalar.muli arg0 c4_i32_301
  let v558 : BitVec 32 := Scalar.addi v557 c0_i32_302
  let v559 : BitVec 32 := Scalar.addi v558 c0_i32_303
  let v560 : Index := Scalar.indexCast v559
  let c21_304 : Index := 21#32
  ![v560.toNat, 21]
def k0_off25 (i : grid0.Coords) (c0_i32_316 : BitVec 32) (c0_i32_317 : BitVec 32) : Fin 2 → Nat :=
  let arg0 : BitVec 32 := BitVec.ofNat 32 (i 0).val
  let c4_i32_315 : BitVec 32 := 4#32
  let v583 : BitVec 32 := Scalar.muli arg0 c4_i32_315
  let v584 : BitVec 32 := Scalar.addi v583 c0_i32_316
  let v585 : BitVec 32 := Scalar.addi v584 c0_i32_317
  let v586 : Index := Scalar.indexCast v585
  let c22_318 : Index := 22#32
  ![v586.toNat, 22]
def k0_off26 (i : grid0.Coords) (c0_i32_330 : BitVec 32) (c0_i32_331 : BitVec 32) : Fin 2 → Nat :=
  let arg0 : BitVec 32 := BitVec.ofNat 32 (i 0).val
  let c4_i32_329 : BitVec 32 := 4#32
  let v609 : BitVec 32 := Scalar.muli arg0 c4_i32_329
  let v610 : BitVec 32 := Scalar.addi v609 c0_i32_330
  let v611 : BitVec 32 := Scalar.addi v610 c0_i32_331
  let v612 : Index := Scalar.indexCast v611
  let c23_332 : Index := 23#32
  ![v612.toNat, 23]
def k0_off27 (i : grid0.Coords) (c0_i32_344 : BitVec 32) (c0_i32_345 : BitVec 32) : Fin 2 → Nat :=
  let arg0 : BitVec 32 := BitVec.ofNat 32 (i 0).val
  let c4_i32_343 : BitVec 32 := 4#32
  let v635 : BitVec 32 := Scalar.muli arg0 c4_i32_343
  let v636 : BitVec 32 := Scalar.addi v635 c0_i32_344
  let v637 : BitVec 32 := Scalar.addi v636 c0_i32_345
  let v638 : Index := Scalar.indexCast v637
  let c24_346 : Index := 24#32
  ![v638.toNat, 24]
def k0_off28 (i : grid0.Coords) (c0_i32_358 : BitVec 32) (c0_i32_359 : BitVec 32) : Fin 2 → Nat :=
  let arg0 : BitVec 32 := BitVec.ofNat 32 (i 0).val
  let c4_i32_357 : BitVec 32 := 4#32
  let v661 : BitVec 32 := Scalar.muli arg0 c4_i32_357
  let v662 : BitVec 32 := Scalar.addi v661 c0_i32_358
  let v663 : BitVec 32 := Scalar.addi v662 c0_i32_359
  let v664 : Index := Scalar.indexCast v663
  let c25_360 : Index := 25#32
  ![v664.toNat, 25]
def k0_off29 (i : grid0.Coords) (c0_i32_372 : BitVec 32) (c0_i32_373 : BitVec 32) : Fin 2 → Nat :=
  let arg0 : BitVec 32 := BitVec.ofNat 32 (i 0).val
  let c4_i32_371 : BitVec 32 := 4#32
  let v687 : BitVec 32 := Scalar.muli arg0 c4_i32_371
  let v688 : BitVec 32 := Scalar.addi v687 c0_i32_372
  let v689 : BitVec 32 := Scalar.addi v688 c0_i32_373
  let v690 : Index := Scalar.indexCast v689
  let c26_374 : Index := 26#32
  ![v690.toNat, 26]
def k0_off30 (i : grid0.Coords) (c0_i32_386 : BitVec 32) (c0_i32_387 : BitVec 32) : Fin 2 → Nat :=
  let arg0 : BitVec 32 := BitVec.ofNat 32 (i 0).val
  let c4_i32_385 : BitVec 32 := 4#32
  let v713 : BitVec 32 := Scalar.muli arg0 c4_i32_385
  let v714 : BitVec 32 := Scalar.addi v713 c0_i32_386
  let v715 : BitVec 32 := Scalar.addi v714 c0_i32_387
  let v716 : Index := Scalar.indexCast v715
  let c27_388 : Index := 27#32
  ![v716.toNat, 27]
def k0_off31 (i : grid0.Coords) (c0_i32_400 : BitVec 32) (c0_i32_401 : BitVec 32) : Fin 2 → Nat :=
  let arg0 : BitVec 32 := BitVec.ofNat 32 (i 0).val
  let c4_i32_399 : BitVec 32 := 4#32
  let v739 : BitVec 32 := Scalar.muli arg0 c4_i32_399
  let v740 : BitVec 32 := Scalar.addi v739 c0_i32_400
  let v741 : BitVec 32 := Scalar.addi v740 c0_i32_401
  let v742 : Index := Scalar.indexCast v741
  let c28_402 : Index := 28#32
  ![v742.toNat, 28]
def k0_off32 (i : grid0.Coords) (c0_i32_414 : BitVec 32) (c0_i32_415 : BitVec 32) : Fin 2 → Nat :=
  let arg0 : BitVec 32 := BitVec.ofNat 32 (i 0).val
  let c4_i32_413 : BitVec 32 := 4#32
  let v765 : BitVec 32 := Scalar.muli arg0 c4_i32_413
  let v766 : BitVec 32 := Scalar.addi v765 c0_i32_414
  let v767 : BitVec 32 := Scalar.addi v766 c0_i32_415
  let v768 : Index := Scalar.indexCast v767
  let c29_416 : Index := 29#32
  ![v768.toNat, 29]
def k0_off33 (i : grid0.Coords) (c0_i32_428 : BitVec 32) (c0_i32_429 : BitVec 32) : Fin 2 → Nat :=
  let arg0 : BitVec 32 := BitVec.ofNat 32 (i 0).val
  let c4_i32_427 : BitVec 32 := 4#32
  let v791 : BitVec 32 := Scalar.muli arg0 c4_i32_427
  let v792 : BitVec 32 := Scalar.addi v791 c0_i32_428
  let v793 : BitVec 32 := Scalar.addi v792 c0_i32_429
  let v794 : Index := Scalar.indexCast v793
  let c30_430 : Index := 30#32
  ![v794.toNat, 30]
def k0_off34 (i : grid0.Coords) (c0_i32_442 : BitVec 32) (c0_i32_443 : BitVec 32) : Fin 2 → Nat :=
  let arg0 : BitVec 32 := BitVec.ofNat 32 (i 0).val
  let c4_i32_441 : BitVec 32 := 4#32
  let v817 : BitVec 32 := Scalar.muli arg0 c4_i32_441
  let v818 : BitVec 32 := Scalar.addi v817 c0_i32_442
  let v819 : BitVec 32 := Scalar.addi v818 c0_i32_443
  let v820 : Index := Scalar.indexCast v819
  let c31_444 : Index := 31#32
  ![v820.toNat, 31]
def k0_off35 (i : grid0.Coords) (c0_i32_456 : BitVec 32) (c0_i32_457 : BitVec 32) : Fin 2 → Nat :=
  let arg0 : BitVec 32 := BitVec.ofNat 32 (i 0).val
  let c4_i32_455 : BitVec 32 := 4#32
  let v843 : BitVec 32 := Scalar.muli arg0 c4_i32_455
  let v844 : BitVec 32 := Scalar.addi v843 c0_i32_456
  let v845 : BitVec 32 := Scalar.addi v844 c0_i32_457
  let v846 : Index := Scalar.indexCast v845
  let c32_458 : Index := 32#32
  ![v846.toNat, 32]
def k0_off36 (i : grid0.Coords) (c0_i32_470 : BitVec 32) (c0_i32_471 : BitVec 32) : Fin 2 → Nat :=
  let arg0 : BitVec 32 := BitVec.ofNat 32 (i 0).val
  let c4_i32_469 : BitVec 32 := 4#32
  let v869 : BitVec 32 := Scalar.muli arg0 c4_i32_469
  let v870 : BitVec 32 := Scalar.addi v869 c0_i32_470
  let v871 : BitVec 32 := Scalar.addi v870 c0_i32_471
  let v872 : Index := Scalar.indexCast v871
  let c33_472 : Index := 33#32
  ![v872.toNat, 33]
def k0_off37 (i : grid0.Coords) (c0_i32_484 : BitVec 32) (c0_i32_485 : BitVec 32) : Fin 2 → Nat :=
  let arg0 : BitVec 32 := BitVec.ofNat 32 (i 0).val
  let c4_i32_483 : BitVec 32 := 4#32
  let v895 : BitVec 32 := Scalar.muli arg0 c4_i32_483
  let v896 : BitVec 32 := Scalar.addi v895 c0_i32_484
  let v897 : BitVec 32 := Scalar.addi v896 c0_i32_485
  let v898 : Index := Scalar.indexCast v897
  let c34_486 : Index := 34#32
  ![v898.toNat, 34]
def k0_off38 (i : grid0.Coords) (c0_i32_498 : BitVec 32) (c0_i32_499 : BitVec 32) : Fin 2 → Nat :=
  let arg0 : BitVec 32 := BitVec.ofNat 32 (i 0).val
  let c4_i32_497 : BitVec 32 := 4#32
  let v921 : BitVec 32 := Scalar.muli arg0 c4_i32_497
  let v922 : BitVec 32 := Scalar.addi v921 c0_i32_498
  let v923 : BitVec 32 := Scalar.addi v922 c0_i32_499
  let v924 : Index := Scalar.indexCast v923
  let c35_500 : Index := 35#32
  ![v924.toNat, 35]
def k0_off39 (i : grid0.Coords) (c0_i32_512 : BitVec 32) (c0_i32_513 : BitVec 32) : Fin 2 → Nat :=
  let arg0 : BitVec 32 := BitVec.ofNat 32 (i 0).val
  let c4_i32_511 : BitVec 32 := 4#32
  let v947 : BitVec 32 := Scalar.muli arg0 c4_i32_511
  let v948 : BitVec 32 := Scalar.addi v947 c0_i32_512
  let v949 : BitVec 32 := Scalar.addi v948 c0_i32_513
  let v950 : Index := Scalar.indexCast v949
  let c36_514 : Index := 36#32
  ![v950.toNat, 36]
def k0_off40 (i : grid0.Coords) (c0_i32_526 : BitVec 32) (c0_i32_527 : BitVec 32) : Fin 2 → Nat :=
  let arg0 : BitVec 32 := BitVec.ofNat 32 (i 0).val
  let c4_i32_525 : BitVec 32 := 4#32
  let v973 : BitVec 32 := Scalar.muli arg0 c4_i32_525
  let v974 : BitVec 32 := Scalar.addi v973 c0_i32_526
  let v975 : BitVec 32 := Scalar.addi v974 c0_i32_527
  let v976 : Index := Scalar.indexCast v975
  let c37_528 : Index := 37#32
  ![v976.toNat, 37]
def k0_off41 (i : grid0.Coords) (c0_i32_540 : BitVec 32) (c0_i32_541 : BitVec 32) : Fin 2 → Nat :=
  let arg0 : BitVec 32 := BitVec.ofNat 32 (i 0).val
  let c4_i32_539 : BitVec 32 := 4#32
  let v999 : BitVec 32 := Scalar.muli arg0 c4_i32_539
  let v1000 : BitVec 32 := Scalar.addi v999 c0_i32_540
  let v1001 : BitVec 32 := Scalar.addi v1000 c0_i32_541
  let v1002 : Index := Scalar.indexCast v1001
  let c38_542 : Index := 38#32
  ![v1002.toNat, 38]
def k0_off42 (i : grid0.Coords) (c0_i32_554 : BitVec 32) (c0_i32_555 : BitVec 32) : Fin 2 → Nat :=
  let arg0 : BitVec 32 := BitVec.ofNat 32 (i 0).val
  let c4_i32_553 : BitVec 32 := 4#32
  let v1025 : BitVec 32 := Scalar.muli arg0 c4_i32_553
  let v1026 : BitVec 32 := Scalar.addi v1025 c0_i32_554
  let v1027 : BitVec 32 := Scalar.addi v1026 c0_i32_555
  let v1028 : Index := Scalar.indexCast v1027
  let c39_556 : Index := 39#32
  ![v1028.toNat, 39]
def k0_off43 (i : grid0.Coords) (c0_i32_568 : BitVec 32) (c0_i32_569 : BitVec 32) : Fin 2 → Nat :=
  let arg0 : BitVec 32 := BitVec.ofNat 32 (i 0).val
  let c4_i32_567 : BitVec 32 := 4#32
  let v1051 : BitVec 32 := Scalar.muli arg0 c4_i32_567
  let v1052 : BitVec 32 := Scalar.addi v1051 c0_i32_568
  let v1053 : BitVec 32 := Scalar.addi v1052 c0_i32_569
  let v1054 : Index := Scalar.indexCast v1053
  let c40_570 : Index := 40#32
  ![v1054.toNat, 40]
def k0_off44 (i : grid0.Coords) (c0_i32_582 : BitVec 32) (c0_i32_583 : BitVec 32) : Fin 2 → Nat :=
  let arg0 : BitVec 32 := BitVec.ofNat 32 (i 0).val
  let c4_i32_581 : BitVec 32 := 4#32
  let v1077 : BitVec 32 := Scalar.muli arg0 c4_i32_581
  let v1078 : BitVec 32 := Scalar.addi v1077 c0_i32_582
  let v1079 : BitVec 32 := Scalar.addi v1078 c0_i32_583
  let v1080 : Index := Scalar.indexCast v1079
  let c41_584 : Index := 41#32
  ![v1080.toNat, 41]
def k0_off45 (i : grid0.Coords) (c0_i32_596 : BitVec 32) (c0_i32_597 : BitVec 32) : Fin 2 → Nat :=
  let arg0 : BitVec 32 := BitVec.ofNat 32 (i 0).val
  let c4_i32_595 : BitVec 32 := 4#32
  let v1103 : BitVec 32 := Scalar.muli arg0 c4_i32_595
  let v1104 : BitVec 32 := Scalar.addi v1103 c0_i32_596
  let v1105 : BitVec 32 := Scalar.addi v1104 c0_i32_597
  let v1106 : Index := Scalar.indexCast v1105
  let c42_598 : Index := 42#32
  ![v1106.toNat, 42]
def k0_off46 (i : grid0.Coords) (c0_i32_610 : BitVec 32) (c0_i32_611 : BitVec 32) : Fin 2 → Nat :=
  let arg0 : BitVec 32 := BitVec.ofNat 32 (i 0).val
  let c4_i32_609 : BitVec 32 := 4#32
  let v1129 : BitVec 32 := Scalar.muli arg0 c4_i32_609
  let v1130 : BitVec 32 := Scalar.addi v1129 c0_i32_610
  let v1131 : BitVec 32 := Scalar.addi v1130 c0_i32_611
  let v1132 : Index := Scalar.indexCast v1131
  let c43_612 : Index := 43#32
  ![v1132.toNat, 43]
def k0_off47 (i : grid0.Coords) (c0_i32_624 : BitVec 32) (c0_i32_625 : BitVec 32) : Fin 2 → Nat :=
  let arg0 : BitVec 32 := BitVec.ofNat 32 (i 0).val
  let c4_i32_623 : BitVec 32 := 4#32
  let v1155 : BitVec 32 := Scalar.muli arg0 c4_i32_623
  let v1156 : BitVec 32 := Scalar.addi v1155 c0_i32_624
  let v1157 : BitVec 32 := Scalar.addi v1156 c0_i32_625
  let v1158 : Index := Scalar.indexCast v1157
  let c44_626 : Index := 44#32
  ![v1158.toNat, 44]
def k0_off48 (i : grid0.Coords) (c0_i32_638 : BitVec 32) (c0_i32_639 : BitVec 32) : Fin 2 → Nat :=
  let arg0 : BitVec 32 := BitVec.ofNat 32 (i 0).val
  let c4_i32_637 : BitVec 32 := 4#32
  let v1181 : BitVec 32 := Scalar.muli arg0 c4_i32_637
  let v1182 : BitVec 32 := Scalar.addi v1181 c0_i32_638
  let v1183 : BitVec 32 := Scalar.addi v1182 c0_i32_639
  let v1184 : Index := Scalar.indexCast v1183
  let c45_640 : Index := 45#32
  ![v1184.toNat, 45]
def k0_off49 (i : grid0.Coords) (c0_i32_652 : BitVec 32) (c0_i32_653 : BitVec 32) : Fin 2 → Nat :=
  let arg0 : BitVec 32 := BitVec.ofNat 32 (i 0).val
  let c4_i32_651 : BitVec 32 := 4#32
  let v1207 : BitVec 32 := Scalar.muli arg0 c4_i32_651
  let v1208 : BitVec 32 := Scalar.addi v1207 c0_i32_652
  let v1209 : BitVec 32 := Scalar.addi v1208 c0_i32_653
  let v1210 : Index := Scalar.indexCast v1209
  let c46_654 : Index := 46#32
  ![v1210.toNat, 46]
def k0_off50 (i : grid0.Coords) (c0_i32_666 : BitVec 32) (c0_i32_667 : BitVec 32) : Fin 2 → Nat :=
  let arg0 : BitVec 32 := BitVec.ofNat 32 (i 0).val
  let c4_i32_665 : BitVec 32 := 4#32
  let v1233 : BitVec 32 := Scalar.muli arg0 c4_i32_665
  let v1234 : BitVec 32 := Scalar.addi v1233 c0_i32_666
  let v1235 : BitVec 32 := Scalar.addi v1234 c0_i32_667
  let v1236 : Index := Scalar.indexCast v1235
  let c47_668 : Index := 47#32
  ![v1236.toNat, 47]
def k0_off51 (i : grid0.Coords) (c0_i32_680 : BitVec 32) (c0_i32_681 : BitVec 32) : Fin 2 → Nat :=
  let arg0 : BitVec 32 := BitVec.ofNat 32 (i 0).val
  let c4_i32_679 : BitVec 32 := 4#32
  let v1259 : BitVec 32 := Scalar.muli arg0 c4_i32_679
  let v1260 : BitVec 32 := Scalar.addi v1259 c0_i32_680
  let v1261 : BitVec 32 := Scalar.addi v1260 c0_i32_681
  let v1262 : Index := Scalar.indexCast v1261
  let c48_682 : Index := 48#32
  ![v1262.toNat, 48]
def k0_off52 (i : grid0.Coords) (c0_i32_694 : BitVec 32) (c0_i32_695 : BitVec 32) : Fin 2 → Nat :=
  let arg0 : BitVec 32 := BitVec.ofNat 32 (i 0).val
  let c4_i32_693 : BitVec 32 := 4#32
  let v1285 : BitVec 32 := Scalar.muli arg0 c4_i32_693
  let v1286 : BitVec 32 := Scalar.addi v1285 c0_i32_694
  let v1287 : BitVec 32 := Scalar.addi v1286 c0_i32_695
  let v1288 : Index := Scalar.indexCast v1287
  let c49_696 : Index := 49#32
  ![v1288.toNat, 49]
def k0_off53 (i : grid0.Coords) (c0_i32_708 : BitVec 32) (c0_i32_709 : BitVec 32) : Fin 2 → Nat :=
  let arg0 : BitVec 32 := BitVec.ofNat 32 (i 0).val
  let c4_i32_707 : BitVec 32 := 4#32
  let v1311 : BitVec 32 := Scalar.muli arg0 c4_i32_707
  let v1312 : BitVec 32 := Scalar.addi v1311 c0_i32_708
  let v1313 : BitVec 32 := Scalar.addi v1312 c0_i32_709
  let v1314 : Index := Scalar.indexCast v1313
  let c50_710 : Index := 50#32
  ![v1314.toNat, 50]
def k0_off54 (i : grid0.Coords) (c0_i32_722 : BitVec 32) (c0_i32_723 : BitVec 32) : Fin 2 → Nat :=
  let arg0 : BitVec 32 := BitVec.ofNat 32 (i 0).val
  let c4_i32_721 : BitVec 32 := 4#32
  let v1337 : BitVec 32 := Scalar.muli arg0 c4_i32_721
  let v1338 : BitVec 32 := Scalar.addi v1337 c0_i32_722
  let v1339 : BitVec 32 := Scalar.addi v1338 c0_i32_723
  let v1340 : Index := Scalar.indexCast v1339
  let c51_724 : Index := 51#32
  ![v1340.toNat, 51]
def k0_off55 (i : grid0.Coords) (c0_i32_736 : BitVec 32) (c0_i32_737 : BitVec 32) : Fin 2 → Nat :=
  let arg0 : BitVec 32 := BitVec.ofNat 32 (i 0).val
  let c4_i32_735 : BitVec 32 := 4#32
  let v1363 : BitVec 32 := Scalar.muli arg0 c4_i32_735
  let v1364 : BitVec 32 := Scalar.addi v1363 c0_i32_736
  let v1365 : BitVec 32 := Scalar.addi v1364 c0_i32_737
  let v1366 : Index := Scalar.indexCast v1365
  let c52_738 : Index := 52#32
  ![v1366.toNat, 52]
def k0_off56 (i : grid0.Coords) (c0_i32_750 : BitVec 32) (c0_i32_751 : BitVec 32) : Fin 2 → Nat :=
  let arg0 : BitVec 32 := BitVec.ofNat 32 (i 0).val
  let c4_i32_749 : BitVec 32 := 4#32
  let v1389 : BitVec 32 := Scalar.muli arg0 c4_i32_749
  let v1390 : BitVec 32 := Scalar.addi v1389 c0_i32_750
  let v1391 : BitVec 32 := Scalar.addi v1390 c0_i32_751
  let v1392 : Index := Scalar.indexCast v1391
  let c53_752 : Index := 53#32
  ![v1392.toNat, 53]
def k0_off57 (i : grid0.Coords) (c0_i32_764 : BitVec 32) (c0_i32_765 : BitVec 32) : Fin 2 → Nat :=
  let arg0 : BitVec 32 := BitVec.ofNat 32 (i 0).val
  let c4_i32_763 : BitVec 32 := 4#32
  let v1415 : BitVec 32 := Scalar.muli arg0 c4_i32_763
  let v1416 : BitVec 32 := Scalar.addi v1415 c0_i32_764
  let v1417 : BitVec 32 := Scalar.addi v1416 c0_i32_765
  let v1418 : Index := Scalar.indexCast v1417
  let c54_766 : Index := 54#32
  ![v1418.toNat, 54]
def k0_off58 (i : grid0.Coords) (c0_i32_778 : BitVec 32) (c0_i32_779 : BitVec 32) : Fin 2 → Nat :=
  let arg0 : BitVec 32 := BitVec.ofNat 32 (i 0).val
  let c4_i32_777 : BitVec 32 := 4#32
  let v1441 : BitVec 32 := Scalar.muli arg0 c4_i32_777
  let v1442 : BitVec 32 := Scalar.addi v1441 c0_i32_778
  let v1443 : BitVec 32 := Scalar.addi v1442 c0_i32_779
  let v1444 : Index := Scalar.indexCast v1443
  let c55_780 : Index := 55#32
  ![v1444.toNat, 55]
def k0_off59 (i : grid0.Coords) (c0_i32_792 : BitVec 32) (c0_i32_793 : BitVec 32) : Fin 2 → Nat :=
  let arg0 : BitVec 32 := BitVec.ofNat 32 (i 0).val
  let c4_i32_791 : BitVec 32 := 4#32
  let v1467 : BitVec 32 := Scalar.muli arg0 c4_i32_791
  let v1468 : BitVec 32 := Scalar.addi v1467 c0_i32_792
  let v1469 : BitVec 32 := Scalar.addi v1468 c0_i32_793
  let v1470 : Index := Scalar.indexCast v1469
  let c56_794 : Index := 56#32
  ![v1470.toNat, 56]
def k0_off60 (i : grid0.Coords) (c0_i32_806 : BitVec 32) (c0_i32_807 : BitVec 32) : Fin 2 → Nat :=
  let arg0 : BitVec 32 := BitVec.ofNat 32 (i 0).val
  let c4_i32_805 : BitVec 32 := 4#32
  let v1493 : BitVec 32 := Scalar.muli arg0 c4_i32_805
  let v1494 : BitVec 32 := Scalar.addi v1493 c0_i32_806
  let v1495 : BitVec 32 := Scalar.addi v1494 c0_i32_807
  let v1496 : Index := Scalar.indexCast v1495
  let c57_808 : Index := 57#32
  ![v1496.toNat, 57]
def k0_off61 (i : grid0.Coords) (c0_i32_820 : BitVec 32) (c0_i32_821 : BitVec 32) : Fin 2 → Nat :=
  let arg0 : BitVec 32 := BitVec.ofNat 32 (i 0).val
  let c4_i32_819 : BitVec 32 := 4#32
  let v1519 : BitVec 32 := Scalar.muli arg0 c4_i32_819
  let v1520 : BitVec 32 := Scalar.addi v1519 c0_i32_820
  let v1521 : BitVec 32 := Scalar.addi v1520 c0_i32_821
  let v1522 : Index := Scalar.indexCast v1521
  let c58_822 : Index := 58#32
  ![v1522.toNat, 58]
def k0_off62 (i : grid0.Coords) (c0_i32_834 : BitVec 32) (c0_i32_835 : BitVec 32) : Fin 2 → Nat :=
  let arg0 : BitVec 32 := BitVec.ofNat 32 (i 0).val
  let c4_i32_833 : BitVec 32 := 4#32
  let v1545 : BitVec 32 := Scalar.muli arg0 c4_i32_833
  let v1546 : BitVec 32 := Scalar.addi v1545 c0_i32_834
  let v1547 : BitVec 32 := Scalar.addi v1546 c0_i32_835
  let v1548 : Index := Scalar.indexCast v1547
  let c59_836 : Index := 59#32
  ![v1548.toNat, 59]
def k0_off63 (i : grid0.Coords) (c0_i32_848 : BitVec 32) (c0_i32_849 : BitVec 32) : Fin 2 → Nat :=
  let arg0 : BitVec 32 := BitVec.ofNat 32 (i 0).val
  let c4_i32_847 : BitVec 32 := 4#32
  let v1571 : BitVec 32 := Scalar.muli arg0 c4_i32_847
  let v1572 : BitVec 32 := Scalar.addi v1571 c0_i32_848
  let v1573 : BitVec 32 := Scalar.addi v1572 c0_i32_849
  let v1574 : Index := Scalar.indexCast v1573
  let c60_850 : Index := 60#32
  ![v1574.toNat, 60]
def k0_off64 (i : grid0.Coords) (c0_i32_862 : BitVec 32) (c0_i32_863 : BitVec 32) : Fin 2 → Nat :=
  let arg0 : BitVec 32 := BitVec.ofNat 32 (i 0).val
  let c4_i32_861 : BitVec 32 := 4#32
  let v1597 : BitVec 32 := Scalar.muli arg0 c4_i32_861
  let v1598 : BitVec 32 := Scalar.addi v1597 c0_i32_862
  let v1599 : BitVec 32 := Scalar.addi v1598 c0_i32_863
  let v1600 : Index := Scalar.indexCast v1599
  let c61_864 : Index := 61#32
  ![v1600.toNat, 61]
def k0_off65 (i : grid0.Coords) (c0_i32_876 : BitVec 32) (c0_i32_877 : BitVec 32) : Fin 2 → Nat :=
  let arg0 : BitVec 32 := BitVec.ofNat 32 (i 0).val
  let c4_i32_875 : BitVec 32 := 4#32
  let v1623 : BitVec 32 := Scalar.muli arg0 c4_i32_875
  let v1624 : BitVec 32 := Scalar.addi v1623 c0_i32_876
  let v1625 : BitVec 32 := Scalar.addi v1624 c0_i32_877
  let v1626 : Index := Scalar.indexCast v1625
  let c62_878 : Index := 62#32
  ![v1626.toNat, 62]
def k0_off66 (i : grid0.Coords) (c0_i32_890 : BitVec 32) (c0_i32_891 : BitVec 32) : Fin 2 → Nat :=
  let arg0 : BitVec 32 := BitVec.ofNat 32 (i 0).val
  let c4_i32_889 : BitVec 32 := 4#32
  let v1649 : BitVec 32 := Scalar.muli arg0 c4_i32_889
  let v1650 : BitVec 32 := Scalar.addi v1649 c0_i32_890
  let v1651 : BitVec 32 := Scalar.addi v1650 c0_i32_891
  let v1652 : Index := Scalar.indexCast v1651
  let c63_892 : Index := 63#32
  ![v1652.toNat, 63]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S48x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2x256x8192 : Shape := ⟨3, ![2, 256, 8192]⟩
abbrev S8192x6144 : Shape := ⟨2, ![8192, 6144]⟩
abbrev S64x48 : Shape := ⟨2, ![64, 48]⟩
abbrev S2x256x6144 : Shape := ⟨3, ![2, 256, 6144]⟩
abbrev S2x256x64 : Shape := ⟨3, ![2, 256, 64]⟩
abbrev S512x64x128 : Shape := ⟨3, ![512, 64, 128]⟩
abbrev S512x64 : Shape := ⟨2, ![512, 64]⟩
abbrev S512x64x1 : Shape := ⟨3, ![512, 64, 1]⟩
abbrev S64x128x6144 : Shape := ⟨3, ![64, 128, 6144]⟩
abbrev S64x512x6144 : Shape := ⟨3, ![64, 512, 6144]⟩
abbrev S64x512x1 : Shape := ⟨3, ![64, 512, 1]⟩
abbrev S64x48x1 : Shape := ⟨3, ![64, 48, 1]⟩
abbrev S64x48x128 : Shape := ⟨3, ![64, 48, 128]⟩
abbrev S64x6144 : Shape := ⟨2, ![64, 6144]⟩
abbrev S64x1x6144 : Shape := ⟨3, ![64, 1, 6144]⟩
abbrev S512x6144 : Shape := ⟨2, ![512, 6144]⟩

abbrev nBuf : Space → Nat
  | .hbm => 6
  | .vmem => 6
  | .smem => 0
  | _ => 0

abbrev bufTy : (tb : Table) → Fin (tcTables nBuf tb) → BufTy
  | .hbm, ⟨0, _⟩ => ⟨S2x256x8192, .bf16⟩
  | .hbm, ⟨1, _⟩ => ⟨S8192x6144, .fp8e4m3⟩
  | .hbm, ⟨2, _⟩ => ⟨S64x48, .f32⟩
  | .hbm, ⟨3, _⟩ => ⟨S2x256x6144, .bf16⟩
  | .hbm, ⟨4, _⟩ => ⟨S2x256x8192, .fp8e4m3⟩
  | .hbm, ⟨5, _⟩ => ⟨S2x256x64, .f32⟩
  | .local _ .vmem, ⟨0, _⟩ => ⟨S2x256x8192, .bf16⟩
  | .local _ .vmem, ⟨1, _⟩ => ⟨S8192x6144, .fp8e4m3⟩
  | .local _ .vmem, ⟨2, _⟩ => ⟨S64x48, .f32⟩
  | .local _ .vmem, ⟨3, _⟩ => ⟨S2x256x6144, .bf16⟩
  | .local _ .vmem, ⟨4, _⟩ => ⟨S2x256x8192, .fp8e4m3⟩
  | .local _ .vmem, ⟨5, _⟩ => ⟨S2x256x64, .f32⟩
  | _, _ => ⟨S2x256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "ln_2" => some ((Real.log 2 : ℝ) : EReal)
  | _ => none

abbrev grid0 : Pipeline.Grid := .none

abbrev stage0_0 : Fin 1 → Memref sig .tc .vmem S2x256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KRuns.lean ====
/- The printed kernel at any numbers: what its two runs share. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v3, main_v4, main_v5}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 2 rfl).trans ((hA c 2).trans (V_main_arg1 m c)),
      ((h c).2 main_arg2 (Finset.mem_sdiff.mpr ⟨Pipeline.mem_restRefs_of main_arg2 (by decide) (by decide), by decide⟩)).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, k0_cond1, e0]
    word_cmp
   : ∀ t : Fin grid0.N, cond0_0 (grid0.coords t) ↔ t.val % 12 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S48x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x8x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x8192 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x64x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S64x512x128 .f32 := Memref.whole cc0_scratch0
abbrev scM0_1 : Memref sig .tc .vmem S512x128 .f32 := Memref.whole cc0_scratch1

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KRunA.lean ====
/- The printed kernel's body at the first grid point. -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 29836000 in
/-- The body's triple IN CASE A (`scf.if` 0 taken: points 0): on whole staging memrefs — the inputs' at their contents,
    the FORGOTTEN outputs' (3, 4, 5) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_A (c : Dev nD) (i : grid0.Coords) (arg1 : Memref sig .tc .smem S48x64 .f32) (harg1 : arg1.IsWhole) (arg2 : Memref sig .tc .vmem S512x8192 .bf16) (harg2 : arg2.IsWhole) (arg3 : Memref sig .tc .vmem S8192x512 .fp8e4m3) (harg3 : arg3.IsWhole) (arg4 : Memref sig .tc .vmem S64x8x512 .bf16) (harg4 : arg4.IsWhole) (arg5 : Memref sig .tc .vmem S512x8192 .fp8e4m3) (harg5 : arg5.IsWhole) (arg6 : Memref sig .tc .vmem S2x64x256 .f32) (harg6 : arg6.IsWhole) (arg7 : Memref sig .tc .vmem S64x512x128 .f32) (harg7 : arg7.IsWhole) (arg8 : Memref sig .tc .vmem S512x128 .f32) (harg8 : arg8.IsWhole) (hc0 : cond0_0 i)
    (x0 : Vec F S48x64 .f32) (x1 : Vec F S512x8192 .bf16) (x2 : Vec F S8192x512 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_fp8_blockwise_linear i arg1 harg1 arg2 harg2 arg3 harg3 arg4 harg4 arg5 harg5 arg6 harg6 arg7 harg7 arg8 harg8) K := by
    intro E K
    simp only [cc0_fp8_blockwise_linear_eq_skeleton]; unfold cc0_fp8_blockwise_linear_skel
    simp only [k0_part368_eq_skeleton, k0_part362_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part363_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part364_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part365_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part366_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part367_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Kernel.Hand

end
-- ==== Proof.KRunB.lean ====
/- The printed kernel's body at every other grid point. -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 29716000 in
/-- The body's triple IN CASE B (`scf.if` 0 not taken: points 1, 2, … 11: 11 of 12): on whole staging memrefs — the inputs' at their contents,
    the FORGOTTEN outputs' (3, 4, 5) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_B (c : Dev nD) (i : grid0.Coords) (arg1 : Memref sig .tc .smem S48x64 .f32) (harg1 : arg1.IsWhole) (arg2 : Memref sig .tc .vmem S512x8192 .bf16) (harg2 : arg2.IsWhole) (arg3 : Memref sig .tc .vmem S8192x512 .fp8e4m3) (harg3 : arg3.IsWhole) (arg4 : Memref sig .tc .vmem S64x8x512 .bf16) (harg4 : arg4.IsWhole) (arg5 : Memref sig .tc .vmem S512x8192 .fp8e4m3) (harg5 : arg5.IsWhole) (arg6 : Memref sig .tc .vmem S2x64x256 .f32) (harg6 : arg6.IsWhole) (arg7 : Memref sig .tc .vmem S64x512x128 .f32) (harg7 : arg7.IsWhole) (arg8 : Memref sig .tc .vmem S512x128 .f32) (harg8 : arg8.IsWhole) (hc0 : ¬cond0_0 i)
    (x0 : Vec F S48x64 .f32) (x1 : Vec F S512x8192 .bf16) (x2 : Vec F S8192x512 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_fp8_blockwise_linear i arg1 harg1 arg2 harg2 arg3 harg3 arg4 harg4 arg5 harg5 arg6 harg6 arg7 harg7 arg8 harg8) K := by
    intro E K
    simp only [cc0_fp8_blockwise_linear_eq_skeleton]; unfold cc0_fp8_blockwise_linear_skel
    simp only [k0_part368_eq_skeleton, k0_part362_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part363_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part364_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part365_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part366_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part367_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Kernel.Hand

end
-- ==== Proof.KFrame.lean ====
/- The printed kernel at any numbers: the run and the frame, nothing said of what the outputs hold. -/
module

public import proofs.«01_k».proof.Proof.KRunA
public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 12 := lt_of_lt_of_eq t.isLt (show cfg0.N = 12 from N_0)
  by_cases h0 : t.val % 12 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame, at any numbers. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.Held.lean ====
/- The buffers the kernel body works on, as one resource. -/
module

public import proofs.«01_k».proof.Proof.Gen.KernelIdeal.Loops
public import proofs.«01_k».proof.Proof.Gen.KernelIdeal.Frame
public import Idealize.ShloMosaic.Lib.Pipeline.FrameBody
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The eight buffers the body is called with, each held whole at the contents given. -/
abbrev Held (c : Dev nD) (arg1 : Memref sig .tc .smem S48x64 .f32) (arg2 : Memref sig .tc .vmem S512x8192 .bf16)
    (arg3 : Memref sig .tc .vmem S8192x512 .fp8e4m3) (arg4 : Memref sig .tc .vmem S64x8x512 .bf16)
    (arg5 : Memref sig .tc .vmem S512x8192 .fp8e4m3) (arg6 : Memref sig .tc .vmem S2x64x256 .f32)
    (arg7 : Memref sig .tc .vmem S64x512x128 .f32) (arg8 : Memref sig .tc .vmem S512x128 .f32)
    (f1 : BufTy.Contents (Elt F) arg1.view.ty)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty) : sProp 𝕄 :=
  iprop((arg1.view.loc (c : Thread nD τ) ↦[arg1.view.set]{fullShare} f1)
    ∗ (arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8))

end Cert.KernelIdeal.Hand

end
-- ==== Proof.RunA.lean ====
/- One pass of the kernel body at the first grid point. -/
module

public import proofs.«01_k».proof.Proof.Held
public import Idealize.ShloMosaic.Lib.Pipeline.FrameBody
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 40000000 in
/-- THE BODY AT THE FIRST POINT: it quantises the whole of `x` into the code buffer and the two scale buffers, then makes
    the output block. The pieces it writes into each buffer (last first) are the run's own finds. -/
def runA (c : Dev nD) (i : grid0.Coords) (arg1 : Memref sig .tc .smem S48x64 .f32) (harg1 : arg1.IsWhole) (arg2 : Memref sig .tc .vmem S512x8192 .bf16)
    (harg2 : arg2.IsWhole) (arg3 : Memref sig .tc .vmem S8192x512 .fp8e4m3) (harg3 : arg3.IsWhole)
    (arg4 : Memref sig .tc .vmem S64x8x512 .bf16) (harg4 : arg4.IsWhole) (arg5 : Memref sig .tc .vmem S512x8192 .fp8e4m3)
    (harg5 : arg5.IsWhole) (arg6 : Memref sig .tc .vmem S2x64x256 .f32) (harg6 : arg6.IsWhole)
    (arg7 : Memref sig .tc .vmem S64x512x128 .f32) (harg7 : arg7.IsWhole) (arg8 : Memref sig .tc .vmem S512x128 .f32)
    (harg8 : arg8.IsWhole) (hc0 : k0_cond1 i = 1#1)
    (f1 : BufTy.Contents (Elt F) arg1.view.ty)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty) :
    Σ' (L4 : List (View.Piece (Elt F) S64x8x512 .bf16)) (L5 : List (View.Piece (Elt F) S512x8192 .fp8e4m3)) (L6 : List (View.Piece (Elt F) S2x64x256 .f32))
      (L7 : List (View.Piece (Elt F) S64x512x128 .f32)), { C8 : BufTy.Contents (Elt F) arg8.view.ty // ∀ (E : Set ℕ),
      (Held c arg1 arg2 arg3 arg4 arg5 arg6 arg7 arg8 f1 f2 f3 f4 f5 f6 f7 f8)
      ⊢ wp frame (wpE (defs₀ (F := F)) Variants.none (c : Thread nD τ) none) E (cc0_fp8_blockwise_linear i arg1 harg1 arg2 harg2 arg3 harg3 arg4 harg4 arg5 harg5 arg6 harg6 arg7 harg7 arg8 harg8)
          (fun _ => (Held c arg1 arg2 arg3 arg4 arg5 arg6 arg7 arg8 f1 f2 f3 (arg4.view.writes (Elt F) f4 L4) (arg5.view.writes (Elt F) f5 L5) (arg6.view.writes (Elt F) f6 L6) (arg7.view.writes (Elt F) f7 L7) C8)) } := by
  refine ⟨?_, ?_, ?_, ?_, ?_, fun E => ?run⟩
  case run =>
    simp only [cc0_fp8_blockwise_linear_eq_skeleton]; unfold cc0_fp8_blockwise_linear_skel
    simp only [k0_part368_eq_skeleton, k0_part362_eq_skeleton, k0_part2_eq_skeleton, k0_part3_eq_skeleton,
      k0_part4_eq_skeleton, k0_part5_eq_skeleton, k0_part6_eq_skeleton, k0_part7_eq_skeleton, k0_part8_eq_skeleton,
      k0_part9_eq_skeleton, k0_part10_eq_skeleton, k0_part11_eq_skeleton, k0_part12_eq_skeleton,
      k0_part13_eq_skeleton, k0_part14_eq_skeleton, k0_part15_eq_skeleton, k0_part16_eq_skeleton,
      k0_part17_eq_skeleton, k0_part18_eq_skeleton, k0_part19_eq_skeleton, k0_part20_eq_skeleton,
      k0_part21_eq_skeleton, k0_part22_eq_skeleton, k0_part23_eq_skeleton, k0_part24_eq_skeleton,
      k0_part25_eq_skeleton, k0_part26_eq_skeleton, k0_part27_eq_skeleton, k0_part28_eq_skeleton,
      k0_part29_eq_skeleton, k0_part30_eq_skeleton, k0_part31_eq_skeleton, k0_part32_eq_skeleton,
      k0_part33_eq_skeleton, k0_part34_eq_skeleton, k0_part35_eq_skeleton, k0_part36_eq_skeleton,
      k0_part37_eq_skeleton, k0_part38_eq_skeleton, k0_part39_eq_skeleton, k0_part40_eq_skeleton,
      k0_part41_eq_skeleton, k0_part42_eq_skeleton, k0_part43_eq_skeleton, k0_part44_eq_skeleton,
      k0_part45_eq_skeleton, k0_part46_eq_skeleton, k0_part47_eq_skeleton, k0_part48_eq_skeleton,
      k0_part49_eq_skeleton, k0_part50_eq_skeleton, k0_part51_eq_skeleton, k0_part52_eq_skeleton,
      k0_part53_eq_skeleton, k0_part54_eq_skeleton, k0_part55_eq_skeleton, k0_part56_eq_skeleton,
      k0_part57_eq_skeleton, k0_part58_eq_skeleton, k0_part59_eq_skeleton, k0_part60_eq_skeleton,
      k0_part61_eq_skeleton, k0_part363_eq_skeleton, k0_part62_eq_skeleton, k0_part63_eq_skeleton,
      k0_part64_eq_skeleton, k0_part65_eq_skeleton, k0_part66_eq_skeleton, k0_part67_eq_skeleton,
      k0_part68_eq_skeleton, k0_part69_eq_skeleton, k0_part70_eq_skeleton, k0_part71_eq_skeleton,
      k0_part72_eq_skeleton, k0_part73_eq_skeleton, k0_part74_eq_skeleton, k0_part75_eq_skeleton,
      k0_part76_eq_skeleton, k0_part77_eq_skeleton, k0_part78_eq_skeleton, k0_part79_eq_skeleton,
      k0_part80_eq_skeleton, k0_part81_eq_skeleton, k0_part82_eq_skeleton, k0_part83_eq_skeleton,
      k0_part84_eq_skeleton, k0_part85_eq_skeleton, k0_part86_eq_skeleton, k0_part87_eq_skeleton,
      k0_part88_eq_skeleton, k0_part89_eq_skeleton, k0_part90_eq_skeleton, k0_part91_eq_skeleton,
      k0_part92_eq_skeleton, k0_part93_eq_skeleton, k0_part94_eq_skeleton, k0_part95_eq_skeleton,
      k0_part96_eq_skeleton, k0_part97_eq_skeleton, k0_part98_eq_skeleton, k0_part99_eq_skeleton,
      k0_part100_eq_skeleton, k0_part101_eq_skeleton, k0_part102_eq_skeleton, k0_part103_eq_skeleton,
      k0_part104_eq_skeleton, k0_part105_eq_skeleton, k0_part106_eq_skeleton, k0_part107_eq_skeleton,
      k0_part108_eq_skeleton, k0_part109_eq_skeleton, k0_part110_eq_skeleton, k0_part111_eq_skeleton,
      k0_part112_eq_skeleton, k0_part113_eq_skeleton, k0_part114_eq_skeleton, k0_part115_eq_skeleton,
      k0_part116_eq_skeleton, k0_part117_eq_skeleton, k0_part118_eq_skeleton, k0_part119_eq_skeleton,
      k0_part120_eq_skeleton, k0_part121_eq_skeleton, k0_part364_eq_skeleton, k0_part122_eq_skeleton,
      k0_part123_eq_skeleton, k0_part124_eq_skeleton, k0_part125_eq_skeleton, k0_part126_eq_skeleton,
      k0_part127_eq_skeleton, k0_part128_eq_skeleton, k0_part129_eq_skeleton, k0_part130_eq_skeleton,
      k0_part131_eq_skeleton, k0_part132_eq_skeleton, k0_part133_eq_skeleton, k0_part134_eq_skeleton,
      k0_part135_eq_skeleton, k0_part136_eq_skeleton, k0_part137_eq_skeleton, k0_part138_eq_skeleton,
      k0_part139_eq_skeleton, k0_part140_eq_skeleton, k0_part141_eq_skeleton, k0_part142_eq_skeleton,
      k0_part143_eq_skeleton, k0_part144_eq_skeleton, k0_part145_eq_skeleton, k0_part146_eq_skeleton,
      k0_part147_eq_skeleton, k0_part148_eq_skeleton, k0_part149_eq_skeleton, k0_part150_eq_skeleton,
      k0_part151_eq_skeleton, k0_part152_eq_skeleton, k0_part153_eq_skeleton, k0_part154_eq_skeleton,
      k0_part155_eq_skeleton, k0_part156_eq_skeleton, k0_part157_eq_skeleton, k0_part158_eq_skeleton,
      k0_part159_eq_skeleton, k0_part160_eq_skeleton, k0_part161_eq_skeleton, k0_part162_eq_skeleton,
      k0_part163_eq_skeleton, k0_part164_eq_skeleton, k0_part165_eq_skeleton, k0_part166_eq_skeleton,
      k0_part167_eq_skeleton, k0_part168_eq_skeleton, k0_part169_eq_skeleton, k0_part170_eq_skeleton,
      k0_part171_eq_skeleton, k0_part172_eq_skeleton, k0_part173_eq_skeleton, k0_part174_eq_skeleton,
      k0_part175_eq_skeleton, k0_part176_eq_skeleton, k0_part177_eq_skeleton, k0_part178_eq_skeleton,
      k0_part179_eq_skeleton, k0_part180_eq_skeleton, k0_part181_eq_skeleton, k0_part365_eq_skeleton,
      k0_part182_eq_skeleton, k0_part183_eq_skeleton, k0_part184_eq_skeleton, k0_part185_eq_skeleton,
      k0_part186_eq_skeleton, k0_part187_eq_skeleton, k0_part188_eq_skeleton, k0_part189_eq_skeleton,
      k0_part190_eq_skeleton, k0_part191_eq_skeleton, k0_part192_eq_skeleton, k0_part193_eq_skeleton,
      k0_part194_eq_skeleton, k0_part195_eq_skeleton, k0_part196_eq_skeleton, k0_part197_eq_skeleton,
      k0_part198_eq_skeleton, k0_part199_eq_skeleton, k0_part200_eq_skeleton, k0_part201_eq_skeleton,
      k0_part202_eq_skeleton, k0_part203_eq_skeleton, k0_part204_eq_skeleton, k0_part205_eq_skeleton,
      k0_part206_eq_skeleton, k0_part207_eq_skeleton, k0_part208_eq_skeleton, k0_part209_eq_skeleton,
      k0_part210_eq_skeleton, k0_part211_eq_skeleton, k0_part212_eq_skeleton, k0_part213_eq_skeleton,
      k0_part214_eq_skeleton, k0_part215_eq_skeleton, k0_part216_eq_skeleton, k0_part217_eq_skeleton,
      k0_part218_eq_skeleton, k0_part219_eq_skeleton, k0_part220_eq_skeleton, k0_part221_eq_skeleton,
      k0_part222_eq_skeleton, k0_part223_eq_skeleton, k0_part224_eq_skeleton, k0_part225_eq_skeleton,
      k0_part226_eq_skeleton, k0_part227_eq_skeleton, k0_part228_eq_skeleton, k0_part229_eq_skeleton,
      k0_part230_eq_skeleton, k0_part231_eq_skeleton, k0_part232_eq_skeleton, k0_part233_eq_skeleton,
      k0_part234_eq_skeleton, k0_part235_eq_skeleton, k0_part236_eq_skeleton, k0_part237_eq_skeleton,
      k0_part238_eq_skeleton, k0_part239_eq_skeleton, k0_part240_eq_skeleton, k0_part241_eq_skeleton,
      k0_part366_eq_skeleton, k0_part242_eq_skeleton, k0_part243_eq_skeleton, k0_part244_eq_skeleton,
      k0_part245_eq_skeleton, k0_part246_eq_skeleton, k0_part247_eq_skeleton, k0_part248_eq_skeleton,
      k0_part249_eq_skeleton, k0_part250_eq_skeleton, k0_part251_eq_skeleton, k0_part252_eq_skeleton,
      k0_part253_eq_skeleton, k0_part254_eq_skeleton, k0_part255_eq_skeleton, k0_part256_eq_skeleton,
      k0_part257_eq_skeleton, k0_part258_eq_skeleton, k0_part259_eq_skeleton, k0_part260_eq_skeleton,
      k0_part261_eq_skeleton, k0_part262_eq_skeleton, k0_part263_eq_skeleton, k0_part264_eq_skeleton,
      k0_part265_eq_skeleton, k0_part266_eq_skeleton, k0_part267_eq_skeleton, k0_part268_eq_skeleton,
      k0_part269_eq_skeleton, k0_part270_eq_skeleton, k0_part271_eq_skeleton, k0_part272_eq_skeleton,
      k0_part273_eq_skeleton, k0_part274_eq_skeleton, k0_part275_eq_skeleton, k0_part276_eq_skeleton,
      k0_part277_eq_skeleton, k0_part278_eq_skeleton, k0_part279_eq_skeleton, k0_part280_eq_skeleton,
      k0_part281_eq_skeleton, k0_part282_eq_skeleton, k0_part283_eq_skeleton, k0_part284_eq_skeleton,
      k0_part285_eq_skeleton, k0_part286_eq_skeleton, k0_part287_eq_skeleton, k0_part288_eq_skeleton,
      k0_part289_eq_skeleton, k0_part290_eq_skeleton, k0_part291_eq_skeleton, k0_part292_eq_skeleton,
      k0_part293_eq_skeleton, k0_part294_eq_skeleton, k0_part295_eq_skeleton, k0_part296_eq_skeleton,
      k0_part297_eq_skeleton, k0_part298_eq_skeleton, k0_part299_eq_skeleton, k0_part300_eq_skeleton,
      k0_part301_eq_skeleton, k0_part367_eq_skeleton, k0_part302_eq_skeleton, k0_part303_eq_skeleton,
      k0_part304_eq_skeleton, k0_part305_eq_skeleton, k0_part306_eq_skeleton, k0_part307_eq_skeleton,
      k0_part308_eq_skeleton, k0_part309_eq_skeleton, k0_part310_eq_skeleton, k0_part311_eq_skeleton,
      k0_part312_eq_skeleton, k0_part313_eq_skeleton, k0_part314_eq_skeleton, k0_part315_eq_skeleton,
      k0_part316_eq_skeleton, k0_part317_eq_skeleton, k0_part318_eq_skeleton, k0_part319_eq_skeleton,
      k0_part320_eq_skeleton, k0_part321_eq_skeleton, k0_part322_eq_skeleton, k0_part323_eq_skeleton,
      k0_part324_eq_skeleton, k0_part325_eq_skeleton, k0_part326_eq_skeleton, k0_part327_eq_skeleton,
      k0_part328_eq_skeleton, k0_part329_eq_skeleton, k0_part330_eq_skeleton, k0_part331_eq_skeleton,
      k0_part332_eq_skeleton, k0_part333_eq_skeleton, k0_part334_eq_skeleton, k0_part335_eq_skeleton,
      k0_part336_eq_skeleton, k0_part337_eq_skeleton, k0_part338_eq_skeleton, k0_part339_eq_skeleton,
      k0_part340_eq_skeleton, k0_part341_eq_skeleton, k0_part342_eq_skeleton, k0_part343_eq_skeleton,
      k0_part344_eq_skeleton, k0_part345_eq_skeleton, k0_part346_eq_skeleton, k0_part347_eq_skeleton,
      k0_part348_eq_skeleton, k0_part349_eq_skeleton, k0_part350_eq_skeleton, k0_part351_eq_skeleton,
      k0_part352_eq_skeleton, k0_part353_eq_skeleton, k0_part354_eq_skeleton, k0_part355_eq_skeleton,
      k0_part356_eq_skeleton, k0_part357_eq_skeleton, k0_part358_eq_skeleton, k0_part359_eq_skeleton,
      k0_part360_eq_skeleton, k0_part361_eq_skeleton]
    iintro ⟨H1, H2, H3, H4, H5, H6, H7, H8⟩
    sl_exec (disch := first | sl_exact hc0)
    sl_step
    sl_close

end Cert.KernelIdeal.Hand

end
-- ==== Proof.Tile.lean ====
/- What one tile of the output block holds, as a function of what the four buffers it is made from read. -/
module

public import proofs.«01_k».proof.Proof.Gen.KernelIdeal.Skeleton
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.ShloMosaic.Pipeline (Dat Cfg Window BodyObligation cellOf)
open Cert.KernelIdeal.Gen

variable {F : FTy → Type} [FloatOps F]

/-- Where the kernel keeps the weight scale of group `g` for the column block `a + b` of grid point `i`. -/
def soff (g : Nat) (i : grid0.Coords) (a b : BitVec 32) : Fin 2 → Nat :=
  ![(Scalar.indexCast (Scalar.addi (Scalar.addi (Scalar.muli (BitVec.ofNat 32 (i 0).val) 4#32) a) b)).toNat, g]

theorem soff_inb (g : Nat) (hg : g < 64) (i : grid0.Coords) (n b : Fin 2) :
    ∀ a, soff g i (BitVec.ofNat 32 (2 * n.val)) (BitVec.ofNat 32 b.val) a + S1x1.size a ≤ S48x64.size a := by
  intro a
  fin_cases a
  · exact k0_off4_inb i n b 0
  · show g + 1 ≤ 64
    omega

theorem inb5 (m g : Nat) (hm : m < 4) (hg : g < 64) :
    ∀ a, (![128 * m, 128 * g] : Fin 2 → Nat) a + S128x128.size a ≤ S512x8192.size a := by
  intro a
  fin_cases a
  · show 128 * m + 128 ≤ 512; omega
  · show 128 * g + 128 ≤ 8192; omega

theorem inb3 (n g : Nat) (hn : n < 2) (hg : g < 64) :
    ∀ a, (![128 * g, 256 * n] : Fin 2 → Nat) a + S128x256.size a ≤ S8192x512.size a := by
  intro a
  fin_cases a
  · show 128 * g + 128 ≤ 8192; omega
  · show 256 * n + 256 ≤ 512; omega

theorem inb7 (m g : Nat) (hm : m < 4) (hg : g < 64) :
    ∀ a, (![g, 128 * m, 0] : Fin 3 → Nat) a + S1x128x128.size a ≤ S64x512x128.size a := by
  intro a
  fin_cases a
  · show g + 1 ≤ 64; omega
  · show 128 * m + 128 ≤ 512; omega
  · show 0 + 128 ≤ 128; omega

theorem inb4 (m q : Nat) (hm : m < 4) (hq : q < 4) :
    ∀ a, (![16 * m, 0, 128 * q] : Fin 3 → Nat) a + S16x8x128.size a ≤ S64x8x512.size a := by
  intro a
  fin_cases a
  · show 16 * m + 16 ≤ 64; omega
  · show 0 + 8 ≤ 8; omega
  · show 128 * q + 128 ≤ 512; omega

/-- The left half of a product's columns. -/
abbrev sl0 (v : FVec F S128x256 .f32) : FVec F S128x128 .f32 :=
  extractStridedSlice S128x128 ![0, 0] v slices_S128x256_o0_0_S128x128
/-- The right half of a product's columns. -/
abbrev sl1 (v : FVec F S128x256 .f32) : FVec F S128x128 .f32 :=
  extractStridedSlice S128x128 ![0, 128] v slices_S128x256_o0_128_S128x128

/-- One group's step: the product of codes and weights, scaled by the row's scale and by the weight block's, added on. -/
abbrev step (sl : FVec F S128x256 .f32 → FVec F S128x128 .f32) (acc : FVec F S128x128 .f32)
    (c : Vec F S128x128 .fp8e4m3) (w : Vec F S128x256 .fp8e4m3) (s : Vec F S1x128x128 .f32) (sw : Elt F .f32) :
    FVec F S128x128 .f32 :=
  addf acc (mulf (mulf (sl (matmul dot_S128x128_S128x256_S128x256_1_0_0_1_n_n none
      (shapeCast S128x128 c shapeCasts_S128x128_S128x128) w (constant S128x256 .f32 0x00000000#32)))
    (shapeCast S128x128 s shapeCasts_S1x128x128_S128x128)) (broadcast S128x128 sw))

/-- The accumulator after the first `g` groups, the four operands of each group given. -/
def tileAcc (sl : FVec F S128x256 .f32 → FVec F S128x128 .f32) (c : ∀ g, g < 64 → Vec F S128x128 .fp8e4m3)
    (w : ∀ g, g < 64 → Vec F S128x256 .fp8e4m3) (s : ∀ g, g < 64 → Vec F S1x128x128 .f32)
    (sw : ∀ g, g < 64 → Elt F .f32) : ∀ g, g ≤ 64 → FVec F S128x128 .f32
  | 0, _ => broadcast S128x128 (Scalar.ofBits .f32 0x00000000#32)
  | g + 1, h => step sl (tileAcc sl c w s sw g (Nat.le_of_succ_le h)) (c g h) (w g h) (s g h) (sw g h)

/-- Row block `m`, column block `2 n + b` of the output block, from the buffers' contents as read: the weight scales
    `R1`, the weights `R3`, the codes `R5` and the row scales `R7`. -/
abbrev outTile (i : grid0.Coords) (R1 : S48x64.Idx → Elt F .f32) (R3 : S8192x512.Idx → Elt F .fp8e4m3)
    (R5 : S512x8192.Idx → Elt F .fp8e4m3) (R7 : S64x512x128.Idx → Elt F .f32)
    (sl : FVec F S128x256 .f32 → FVec F S128x128 .f32) (m : Fin 4) (n b : Fin 2) : FVec F S16x8x128 .bf16 :=
  shapeCast S16x8x128 (truncf .bf16 (tileAcc sl
    (fun g hg => View.ld R5 (Rect.unit (s := S512x8192) ![128 * m.val, 128 * g] S128x128.size (inb5 m g m.isLt hg)))
    (fun g hg => View.ld R3 (Rect.unit (s := S8192x512) ![128 * g, 256 * n.val] S128x256.size (inb3 n g n.isLt hg)))
    (fun g hg => View.ld R7 (Rect.unit (s := S64x512x128) ![g, 128 * m.val, 0] S1x128x128.size (inb7 m g m.isLt hg)))
    (fun g hg => View.ld R1 (Rect.unit (s := S48x64) (soff g i (BitVec.ofNat 32 (2 * n.val)) (BitVec.ofNat 32 b.val))
        S1x1.size (soff_inb g hg i n b)) (Shape.Idx.first (Nat.lt_of_lt_of_eq Nat.one_pos numel1_S1x1.symm)))
    64 (Nat.le_refl 64)) bitsLt_bf16_f32) shapeCasts_S128x128_S16x8x128

/-- The sixteen tiles the output block is written in, last first. -/
def outPieces (i : grid0.Coords) (R1 : S48x64.Idx → Elt F .f32) (R3 : S8192x512.Idx → Elt F .fp8e4m3)
    (R5 : S512x8192.Idx → Elt F .fp8e4m3) (R7 : S64x512x128.Idx → Elt F .f32) :
    List (View.Piece (Elt F) S64x8x512 .bf16) :=
  [⟨Rect.unit (s := S64x8x512) ![48, 0, 384] S16x8x128.size inb_S64x8x512_S16x8x128_48_0_384,
      outTile i R1 R3 R5 R7 sl1 3 1 1⟩,
    ⟨Rect.unit (s := S64x8x512) ![48, 0, 256] S16x8x128.size inb_S64x8x512_S16x8x128_48_0_256,
      outTile i R1 R3 R5 R7 sl0 3 1 0⟩,
    ⟨Rect.unit (s := S64x8x512) ![48, 0, 128] S16x8x128.size inb_S64x8x512_S16x8x128_48_0_128,
      outTile i R1 R3 R5 R7 sl1 3 0 1⟩,
    ⟨Rect.unit (s := S64x8x512) ![48, 0, 0] S16x8x128.size inb_S64x8x512_S16x8x128_48_0_0,
      outTile i R1 R3 R5 R7 sl0 3 0 0⟩,
    ⟨Rect.unit (s := S64x8x512) ![32, 0, 384] S16x8x128.size inb_S64x8x512_S16x8x128_32_0_384,
      outTile i R1 R3 R5 R7 sl1 2 1 1⟩,
    ⟨Rect.unit (s := S64x8x512) ![32, 0, 256] S16x8x128.size inb_S64x8x512_S16x8x128_32_0_256,
      outTile i R1 R3 R5 R7 sl0 2 1 0⟩,
    ⟨Rect.unit (s := S64x8x512) ![32, 0, 128] S16x8x128.size inb_S64x8x512_S16x8x128_32_0_128,
      outTile i R1 R3 R5 R7 sl1 2 0 1⟩,
    ⟨Rect.unit (s := S64x8x512) ![32, 0, 0] S16x8x128.size inb_S64x8x512_S16x8x128_32_0_0,
      outTile i R1 R3 R5 R7 sl0 2 0 0⟩,
    ⟨Rect.unit (s := S64x8x512) ![16, 0, 384] S16x8x128.size inb_S64x8x512_S16x8x128_16_0_384,
      outTile i R1 R3 R5 R7 sl1 1 1 1⟩,
    ⟨Rect.unit (s := S64x8x512) ![16, 0, 256] S16x8x128.size inb_S64x8x512_S16x8x128_16_0_256,
      outTile i R1 R3 R5 R7 sl0 1 1 0⟩,
    ⟨Rect.unit (s := S64x8x512) ![16, 0, 128] S16x8x128.size inb_S64x8x512_S16x8x128_16_0_128,
      outTile i R1 R3 R5 R7 sl1 1 0 1⟩,
    ⟨Rect.unit (s := S64x8x512) ![16, 0, 0] S16x8x128.size inb_S64x8x512_S16x8x128_16_0_0,
      outTile i R1 R3 R5 R7 sl0 1 0 0⟩,
    ⟨Rect.unit (s := S64x8x512) ![0, 0, 384] S16x8x128.size inb_S64x8x512_S16x8x128_0_0_384,
      outTile i R1 R3 R5 R7 sl1 0 1 1⟩,
    ⟨Rect.unit (s := S64x8x512) ![0, 0, 256] S16x8x128.size inb_S64x8x512_S16x8x128_0_0_256,
      outTile i R1 R3 R5 R7 sl0 0 1 0⟩,
    ⟨Rect.unit (s := S64x8x512) ![0, 0, 128] S16x8x128.size inb_S64x8x512_S16x8x128_0_0_128,
      outTile i R1 R3 R5 R7 sl1 0 0 1⟩,
    ⟨Rect.unit (s := S64x8x512) ![0, 0, 0] S16x8x128.size inb_S64x8x512_S16x8x128_0_0_0,
      outTile i R1 R3 R5 R7 sl0 0 0 0⟩]

end Cert.KernelIdeal.Hand

end
-- ==== Proof.PiecesA.lean ====
/- The pieces the body writes at the first grid point. -/
module

public import proofs.«01_k».proof.Proof.RunA
public import proofs.«01_k».proof.Proof.Tile

@[expose] public section

set_option maxRecDepth 16384

noncomputable section

namespace Cert.KernelIdeal.Hand

open Idealize.ShloMosaic Idealize.ShloMosaic.TcCoe Idealize.ShloMosaic.Tactic
open Idealize.ShloMosaic.Pipeline (Dat Cfg Window BodyObligation cellOf)
open Cert.KernelIdeal.Gen

variable {F : FTy → Type} [FloatOps F]

/-- What the quantising loop writes into its three buffers, all trips, last first; it starts from a zeroed scale table. -/
abbrev loopPieces (c : Dev nD) (i : grid0.Coords) (arg1 : Memref sig .tc .smem S48x64 .f32) (harg1 : arg1.IsWhole) (arg2 : Memref sig .tc .vmem S512x8192 .bf16)
    (harg2 : arg2.IsWhole) (arg3 : Memref sig .tc .vmem S8192x512 .fp8e4m3) (harg3 : arg3.IsWhole)
    (arg4 : Memref sig .tc .vmem S64x8x512 .bf16) (harg4 : arg4.IsWhole) (arg5 : Memref sig .tc .vmem S512x8192 .fp8e4m3)
    (harg5 : arg5.IsWhole) (arg6 : Memref sig .tc .vmem S2x64x256 .f32) (harg6 : arg6.IsWhole)
    (arg7 : Memref sig .tc .vmem S64x512x128 .f32) (harg7 : arg7.IsWhole) (arg8 : Memref sig .tc .vmem S512x128 .f32)
    (harg8 : arg8.IsWhole) (hc0 : k0_cond1 i = 1#1)
    (f2 : BufTy.Contents (Elt F) arg2.view.ty) (f5 : BufTy.Contents (Elt F) arg5.view.ty)
    (f7 : BufTy.Contents (Elt F) arg7.view.ty) :=
  pb_k0_t1 (F := F) Variants.none c none i arg1 harg1 arg2 harg2 arg3 harg3 arg4 harg4 arg5 harg5 arg6 harg6 arg7 harg7 arg8 harg8 hc0 f2 f5 f7
    (arg8.view.writes (Elt F) arg8.view.junk [⟨Rect.unit (s := S512x128) ![0, 0] S512x128.size inb_S512x128_S512x128_0_0, k0_pay5⟩]) k0_t1_loop.trips

variable (c : Dev nD) (i : grid0.Coords) (arg1 : Memref sig .tc .smem S48x64 .f32) (harg1 : arg1.IsWhole) (arg2 : Memref sig .tc .vmem S512x8192 .bf16)
    (harg2 : arg2.IsWhole) (arg3 : Memref sig .tc .vmem S8192x512 .fp8e4m3) (harg3 : arg3.IsWhole)
    (arg4 : Memref sig .tc .vmem S64x8x512 .bf16) (harg4 : arg4.IsWhole) (arg5 : Memref sig .tc .vmem S512x8192 .fp8e4m3)
    (harg5 : arg5.IsWhole) (arg6 : Memref sig .tc .vmem S2x64x256 .f32) (harg6 : arg6.IsWhole)
    (arg7 : Memref sig .tc .vmem S64x512x128 .f32) (harg7 : arg7.IsWhole) (arg8 : Memref sig .tc .vmem S512x128 .f32)
    (harg8 : arg8.IsWhole) (hc0 : k0_cond1 i = 1#1)
    (f1 : BufTy.Contents (Elt F) arg1.view.ty)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)

/-- AT THE FIRST POINT the output block is the sixteen tiles, made from what the loop has left. -/
theorem runA_pieces4 :
    (runA c i arg1 harg1 arg2 harg2 arg3 harg3 arg4 harg4 arg5 harg5 arg6 harg6 arg7 harg7 arg8 harg8 hc0 f1 f2 f3 f4 f5 f6 f7 f8).1
      = outPieces i (arg1.view.read (Elt F) f1) (arg3.view.read (Elt F) f3) (arg5.view.read (Elt F) (arg5.view.writes (Elt F) f5 (loopPieces c i arg1 harg1 arg2 harg2 arg3 harg3 arg4 harg4 arg5 harg5 arg6 harg6 arg7 harg7 arg8 harg8 hc0 f2 f5 f7).1))
          (arg7.view.read (Elt F) (arg7.view.writes (Elt F) f7 (loopPieces c i arg1 harg1 arg2 harg2 arg3 harg3 arg4 harg4 arg5 harg5 arg6 harg6 arg7 harg7 arg8 harg8 hc0 f2 f5 f7).2.1)) := by
  unfold runA
  rfl

theorem runA_pieces5 : (runA c i arg1 harg1 arg2 harg2 arg3 harg3 arg4 harg4 arg5 harg5 arg6 harg6 arg7 harg7 arg8 harg8 hc0 f1 f2 f3 f4 f5 f6 f7 f8).2.1 = (loopPieces c i arg1 harg1 arg2 harg2 arg3 harg3 arg4 harg4 arg5 harg5 arg6 harg6 arg7 harg7 arg8 harg8 hc0 f2 f5 f7).1 := by
  unfold runA
  rfl

theorem runA_pieces7 : (runA c i arg1 harg1 arg2 harg2 arg3 harg3 arg4 harg4 arg5 harg5 arg6 harg6 arg7 harg7 arg8 harg8 hc0 f1 f2 f3 f4 f5 f6 f7 f8).2.2.2.1 = (loopPieces c i arg1 harg1 arg2 harg2 arg3 harg3 arg4 harg4 arg5 harg5 arg6 harg6 arg7 harg7 arg8 harg8 hc0 f2 f5 f7).2.1 := by
  unfold runA
  rfl

/-- The table of row scales as the body reads it after the loop. -/
theorem table_end : runA.sl.v13385 (F := F) c i arg1 harg1 arg2 harg2 arg3 harg3 arg4 harg4 arg5 harg5 arg6 harg6 arg7 harg7 arg8 harg8 hc0 f2 f5 f7 = (View.ld (arg8.view.read (Elt F) (arg8.view.writes (Elt F) (arg8.view.writes (Elt F) arg8.view.junk [⟨Rect.unit (s := S512x128) ![0, 0] S512x128.size inb_S512x128_S512x128_0_0, k0_pay5⟩]) (loopPieces c i arg1 harg1 arg2 harg2 arg3 harg3 arg4 harg4 arg5 harg5 arg6 harg6 arg7 harg7 arg8 harg8 hc0 f2 f5 f7).2.2))
          (Rect.unit (s := S512x128) ![0, 0] S512x128.size inb_S512x128_S512x128_0_0)) := by
  unfold runA.sl.v13385
  exact congrArg (fun f => View.ld (arg8.view.read (Elt F) f) (Rect.unit (s := S512x128) ![0, 0] S512x128.size inb_S512x128_S512x128_0_0))
    (View.writes_append arg8.view arg8.view.junk (loopPieces c i arg1 harg1 arg2 harg2 arg3 harg3 arg4 harg4 arg5 harg5 arg6 harg6 arg7 harg7 arg8 harg8 hc0 f2 f5 f7).2.2 [⟨Rect.unit (s := S512x128) ![0, 0] S512x128.size inb_S512x128_S512x128_0_0, k0_pay5⟩])

theorem runA_pieces6 : (runA c i arg1 harg1 arg2 harg2 arg3 harg3 arg4 harg4 arg5 harg5 arg6 harg6 arg7 harg7 arg8 harg8 hc0 f1 f2 f3 f4 f5 f6 f7 f8).2.2.1
    = [⟨Rect.unit (s := S2x64x256) ![1, 0, 0] S1x64x256.size inb_S2x64x256_S1x64x256_1_0_0,
        k0_pay11 (View.ld (arg8.view.read (Elt F) (arg8.view.writes (Elt F) (arg8.view.writes (Elt F) arg8.view.junk [⟨Rect.unit (s := S512x128) ![0, 0] S512x128.size inb_S512x128_S512x128_0_0, k0_pay5⟩]) (loopPieces c i arg1 harg1 arg2 harg2 arg3 harg3 arg4 harg4 arg5 harg5 arg6 harg6 arg7 harg7 arg8 harg8 hc0 f2 f5 f7).2.2))
          (Rect.unit (s := S512x128) ![0, 0] S512x128.size inb_S512x128_S512x128_0_0))⟩,
      ⟨Rect.unit (s := S2x64x256) ![0, 0, 0] S1x64x256.size inb_S2x64x256_S1x64x256_0_0_0,
        k0_pay10 (View.ld (arg8.view.read (Elt F) (arg8.view.writes (Elt F) (arg8.view.writes (Elt F) arg8.view.junk [⟨Rect.unit (s := S512x128) ![0, 0] S512x128.size inb_S512x128_S512x128_0_0, k0_pay5⟩]) (loopPieces c i arg1 harg1 arg2 harg2 arg3 harg3 arg4 harg4 arg5 harg5 arg6 harg6 arg7 harg7 arg8 harg8 hc0 f2 f5 f7).2.2))
          (Rect.unit (s := S512x128) ![0, 0] S512x128.size inb_S512x128_S512x128_0_0))⟩] := by
  rw [← table_end]
  unfold runA
  rfl

end Cert.KernelIdeal.Hand

end
-- ==== Proof.RunB.lean ====
/- One pass of the kernel body at a grid point other than the first. -/
module

public import proofs.«01_k».proof.Proof.Held
public import Idealize.ShloMosaic.Lib.Pipeline.FrameBody
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 40000000 in
/-- THE BODY PAST THE FIRST POINT: it writes the output block's buffer only, and the pieces it writes there (`.1`, last
    first) are the run's own finds, functions of what the other buffers hold. -/
def runB (c : Dev nD) (i : grid0.Coords) (arg1 : Memref sig .tc .smem S48x64 .f32) (harg1 : arg1.IsWhole) (arg2 : Memref sig .tc .vmem S512x8192 .bf16)
    (harg2 : arg2.IsWhole) (arg3 : Memref sig .tc .vmem S8192x512 .fp8e4m3) (harg3 : arg3.IsWhole)
    (arg4 : Memref sig .tc .vmem S64x8x512 .bf16) (harg4 : arg4.IsWhole) (arg5 : Memref sig .tc .vmem S512x8192 .fp8e4m3)
    (harg5 : arg5.IsWhole) (arg6 : Memref sig .tc .vmem S2x64x256 .f32) (harg6 : arg6.IsWhole)
    (arg7 : Memref sig .tc .vmem S64x512x128 .f32) (harg7 : arg7.IsWhole) (arg8 : Memref sig .tc .vmem S512x128 .f32)
    (harg8 : arg8.IsWhole) (hc0 : ¬ (k0_cond1 i = 1#1))
    (f1 : BufTy.Contents (Elt F) arg1.view.ty)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty) :
    { L4 : List (View.Piece (Elt F) S64x8x512 .bf16) // ∀ (E : Set ℕ),
      (Held c arg1 arg2 arg3 arg4 arg5 arg6 arg7 arg8 f1 f2 f3 f4 f5 f6 f7 f8)
      ⊢ wp frame (wpE (defs₀ (F := F)) Variants.none (c : Thread nD τ) none) E (cc0_fp8_blockwise_linear i arg1 harg1 arg2 harg2 arg3 harg3 arg4 harg4 arg5 harg5 arg6 harg6 arg7 harg7 arg8 harg8)
          (fun _ => (Held c arg1 arg2 arg3 arg4 arg5 arg6 arg7 arg8 f1 f2 f3 (arg4.view.writes (Elt F) f4 L4) f5 f6 f7 f8)) } := by
  refine ⟨?_, fun E => ?run⟩
  case run =>
    simp only [cc0_fp8_blockwise_linear_eq_skeleton]; unfold cc0_fp8_blockwise_linear_skel
    simp only [k0_part368_eq_skeleton, k0_part362_eq_skeleton, k0_part2_eq_skeleton, k0_part3_eq_skeleton,
      k0_part4_eq_skeleton, k0_part5_eq_skeleton, k0_part6_eq_skeleton, k0_part7_eq_skeleton, k0_part8_eq_skeleton,
      k0_part9_eq_skeleton, k0_part10_eq_skeleton, k0_part11_eq_skeleton, k0_part12_eq_skeleton,
      k0_part13_eq_skeleton, k0_part14_eq_skeleton, k0_part15_eq_skeleton, k0_part16_eq_skeleton,
      k0_part17_eq_skeleton, k0_part18_eq_skeleton, k0_part19_eq_skeleton, k0_part20_eq_skeleton,
      k0_part21_eq_skeleton, k0_part22_eq_skeleton, k0_part23_eq_skeleton, k0_part24_eq_skeleton,
      k0_part25_eq_skeleton, k0_part26_eq_skeleton, k0_part27_eq_skeleton, k0_part28_eq_skeleton,
      k0_part29_eq_skeleton, k0_part30_eq_skeleton, k0_part31_eq_skeleton, k0_part32_eq_skeleton,
      k0_part33_eq_skeleton, k0_part34_eq_skeleton, k0_part35_eq_skeleton, k0_part36_eq_skeleton,
      k0_part37_eq_skeleton, k0_part38_eq_skeleton, k0_part39_eq_skeleton, k0_part40_eq_skeleton,
      k0_part41_eq_skeleton, k0_part42_eq_skeleton, k0_part43_eq_skeleton, k0_part44_eq_skeleton,
      k0_part45_eq_skeleton, k0_part46_eq_skeleton, k0_part47_eq_skeleton, k0_part48_eq_skeleton,
      k0_part49_eq_skeleton, k0_part50_eq_skeleton, k0_part51_eq_skeleton, k0_part52_eq_skeleton,
      k0_part53_eq_skeleton, k0_part54_eq_skeleton, k0_part55_eq_skeleton, k0_part56_eq_skeleton,
      k0_part57_eq_skeleton, k0_part58_eq_skeleton, k0_part59_eq_skeleton, k0_part60_eq_skeleton,
      k0_part61_eq_skeleton, k0_part363_eq_skeleton, k0_part62_eq_skeleton, k0_part63_eq_skeleton,
      k0_part64_eq_skeleton, k0_part65_eq_skeleton, k0_part66_eq_skeleton, k0_part67_eq_skeleton,
      k0_part68_eq_skeleton, k0_part69_eq_skeleton, k0_part70_eq_skeleton, k0_part71_eq_skeleton,
      k0_part72_eq_skeleton, k0_part73_eq_skeleton, k0_part74_eq_skeleton, k0_part75_eq_skeleton,
      k0_part76_eq_skeleton, k0_part77_eq_skeleton, k0_part78_eq_skeleton, k0_part79_eq_skeleton,
      k0_part80_eq_skeleton, k0_part81_eq_skeleton, k0_part82_eq_skeleton, k0_part83_eq_skeleton,
      k0_part84_eq_skeleton, k0_part85_eq_skeleton, k0_part86_eq_skeleton, k0_part87_eq_skeleton,
      k0_part88_eq_skeleton, k0_part89_eq_skeleton, k0_part90_eq_skeleton, k0_part91_eq_skeleton,
      k0_part92_eq_skeleton, k0_part93_eq_skeleton, k0_part94_eq_skeleton, k0_part95_eq_skeleton,
      k0_part96_eq_skeleton, k0_part97_eq_skeleton, k0_part98_eq_skeleton, k0_part99_eq_skeleton,
      k0_part100_eq_skeleton, k0_part101_eq_skeleton, k0_part102_eq_skeleton, k0_part103_eq_skeleton,
      k0_part104_eq_skeleton, k0_part105_eq_skeleton, k0_part106_eq_skeleton, k0_part107_eq_skeleton,
      k0_part108_eq_skeleton, k0_part109_eq_skeleton, k0_part110_eq_skeleton, k0_part111_eq_skeleton,
      k0_part112_eq_skeleton, k0_part113_eq_skeleton, k0_part114_eq_skeleton, k0_part115_eq_skeleton,
      k0_part116_eq_skeleton, k0_part117_eq_skeleton, k0_part118_eq_skeleton, k0_part119_eq_skeleton,
      k0_part120_eq_skeleton, k0_part121_eq_skeleton, k0_part364_eq_skeleton, k0_part122_eq_skeleton,
      k0_part123_eq_skeleton, k0_part124_eq_skeleton, k0_part125_eq_skeleton, k0_part126_eq_skeleton,
      k0_part127_eq_skeleton, k0_part128_eq_skeleton, k0_part129_eq_skeleton, k0_part130_eq_skeleton,
      k0_part131_eq_skeleton, k0_part132_eq_skeleton, k0_part133_eq_skeleton, k0_part134_eq_skeleton,
      k0_part135_eq_skeleton, k0_part136_eq_skeleton, k0_part137_eq_skeleton, k0_part138_eq_skeleton,
      k0_part139_eq_skeleton, k0_part140_eq_skeleton, k0_part141_eq_skeleton, k0_part142_eq_skeleton,
      k0_part143_eq_skeleton, k0_part144_eq_skeleton, k0_part145_eq_skeleton, k0_part146_eq_skeleton,
      k0_part147_eq_skeleton, k0_part148_eq_skeleton, k0_part149_eq_skeleton, k0_part150_eq_skeleton,
      k0_part151_eq_skeleton, k0_part152_eq_skeleton, k0_part153_eq_skeleton, k0_part154_eq_skeleton,
      k0_part155_eq_skeleton, k0_part156_eq_skeleton, k0_part157_eq_skeleton, k0_part158_eq_skeleton,
      k0_part159_eq_skeleton, k0_part160_eq_skeleton, k0_part161_eq_skeleton, k0_part162_eq_skeleton,
      k0_part163_eq_skeleton, k0_part164_eq_skeleton, k0_part165_eq_skeleton, k0_part166_eq_skeleton,
      k0_part167_eq_skeleton, k0_part168_eq_skeleton, k0_part169_eq_skeleton, k0_part170_eq_skeleton,
      k0_part171_eq_skeleton, k0_part172_eq_skeleton, k0_part173_eq_skeleton, k0_part174_eq_skeleton,
      k0_part175_eq_skeleton, k0_part176_eq_skeleton, k0_part177_eq_skeleton, k0_part178_eq_skeleton,
      k0_part179_eq_skeleton, k0_part180_eq_skeleton, k0_part181_eq_skeleton, k0_part365_eq_skeleton,
      k0_part182_eq_skeleton, k0_part183_eq_skeleton, k0_part184_eq_skeleton, k0_part185_eq_skeleton,
      k0_part186_eq_skeleton, k0_part187_eq_skeleton, k0_part188_eq_skeleton, k0_part189_eq_skeleton,
      k0_part190_eq_skeleton, k0_part191_eq_skeleton, k0_part192_eq_skeleton, k0_part193_eq_skeleton,
      k0_part194_eq_skeleton, k0_part195_eq_skeleton, k0_part196_eq_skeleton, k0_part197_eq_skeleton,
      k0_part198_eq_skeleton, k0_part199_eq_skeleton, k0_part200_eq_skeleton, k0_part201_eq_skeleton,
      k0_part202_eq_skeleton, k0_part203_eq_skeleton, k0_part204_eq_skeleton, k0_part205_eq_skeleton,
      k0_part206_eq_skeleton, k0_part207_eq_skeleton, k0_part208_eq_skeleton, k0_part209_eq_skeleton,
      k0_part210_eq_skeleton, k0_part211_eq_skeleton, k0_part212_eq_skeleton, k0_part213_eq_skeleton,
      k0_part214_eq_skeleton, k0_part215_eq_skeleton, k0_part216_eq_skeleton, k0_part217_eq_skeleton,
      k0_part218_eq_skeleton, k0_part219_eq_skeleton, k0_part220_eq_skeleton, k0_part221_eq_skeleton,
      k0_part222_eq_skeleton, k0_part223_eq_skeleton, k0_part224_eq_skeleton, k0_part225_eq_skeleton,
      k0_part226_eq_skeleton, k0_part227_eq_skeleton, k0_part228_eq_skeleton, k0_part229_eq_skeleton,
      k0_part230_eq_skeleton, k0_part231_eq_skeleton, k0_part232_eq_skeleton, k0_part233_eq_skeleton,
      k0_part234_eq_skeleton, k0_part235_eq_skeleton, k0_part236_eq_skeleton, k0_part237_eq_skeleton,
      k0_part238_eq_skeleton, k0_part239_eq_skeleton, k0_part240_eq_skeleton, k0_part241_eq_skeleton,
      k0_part366_eq_skeleton, k0_part242_eq_skeleton, k0_part243_eq_skeleton, k0_part244_eq_skeleton,
      k0_part245_eq_skeleton, k0_part246_eq_skeleton, k0_part247_eq_skeleton, k0_part248_eq_skeleton,
      k0_part249_eq_skeleton, k0_part250_eq_skeleton, k0_part251_eq_skeleton, k0_part252_eq_skeleton,
      k0_part253_eq_skeleton, k0_part254_eq_skeleton, k0_part255_eq_skeleton, k0_part256_eq_skeleton,
      k0_part257_eq_skeleton, k0_part258_eq_skeleton, k0_part259_eq_skeleton, k0_part260_eq_skeleton,
      k0_part261_eq_skeleton, k0_part262_eq_skeleton, k0_part263_eq_skeleton, k0_part264_eq_skeleton,
      k0_part265_eq_skeleton, k0_part266_eq_skeleton, k0_part267_eq_skeleton, k0_part268_eq_skeleton,
      k0_part269_eq_skeleton, k0_part270_eq_skeleton, k0_part271_eq_skeleton, k0_part272_eq_skeleton,
      k0_part273_eq_skeleton, k0_part274_eq_skeleton, k0_part275_eq_skeleton, k0_part276_eq_skeleton,
      k0_part277_eq_skeleton, k0_part278_eq_skeleton, k0_part279_eq_skeleton, k0_part280_eq_skeleton,
      k0_part281_eq_skeleton, k0_part282_eq_skeleton, k0_part283_eq_skeleton, k0_part284_eq_skeleton,
      k0_part285_eq_skeleton, k0_part286_eq_skeleton, k0_part287_eq_skeleton, k0_part288_eq_skeleton,
      k0_part289_eq_skeleton, k0_part290_eq_skeleton, k0_part291_eq_skeleton, k0_part292_eq_skeleton,
      k0_part293_eq_skeleton, k0_part294_eq_skeleton, k0_part295_eq_skeleton, k0_part296_eq_skeleton,
      k0_part297_eq_skeleton, k0_part298_eq_skeleton, k0_part299_eq_skeleton, k0_part300_eq_skeleton,
      k0_part301_eq_skeleton, k0_part367_eq_skeleton, k0_part302_eq_skeleton, k0_part303_eq_skeleton,
      k0_part304_eq_skeleton, k0_part305_eq_skeleton, k0_part306_eq_skeleton, k0_part307_eq_skeleton,
      k0_part308_eq_skeleton, k0_part309_eq_skeleton, k0_part310_eq_skeleton, k0_part311_eq_skeleton,
      k0_part312_eq_skeleton, k0_part313_eq_skeleton, k0_part314_eq_skeleton, k0_part315_eq_skeleton,
      k0_part316_eq_skeleton, k0_part317_eq_skeleton, k0_part318_eq_skeleton, k0_part319_eq_skeleton,
      k0_part320_eq_skeleton, k0_part321_eq_skeleton, k0_part322_eq_skeleton, k0_part323_eq_skeleton,
      k0_part324_eq_skeleton, k0_part325_eq_skeleton, k0_part326_eq_skeleton, k0_part327_eq_skeleton,
      k0_part328_eq_skeleton, k0_part329_eq_skeleton, k0_part330_eq_skeleton, k0_part331_eq_skeleton,
      k0_part332_eq_skeleton, k0_part333_eq_skeleton, k0_part334_eq_skeleton, k0_part335_eq_skeleton,
      k0_part336_eq_skeleton, k0_part337_eq_skeleton, k0_part338_eq_skeleton, k0_part339_eq_skeleton,
      k0_part340_eq_skeleton, k0_part341_eq_skeleton, k0_part342_eq_skeleton, k0_part343_eq_skeleton,
      k0_part344_eq_skeleton, k0_part345_eq_skeleton, k0_part346_eq_skeleton, k0_part347_eq_skeleton,
      k0_part348_eq_skeleton, k0_part349_eq_skeleton, k0_part350_eq_skeleton, k0_part351_eq_skeleton,
      k0_part352_eq_skeleton, k0_part353_eq_skeleton, k0_part354_eq_skeleton, k0_part355_eq_skeleton,
      k0_part356_eq_skeleton, k0_part357_eq_skeleton, k0_part358_eq_skeleton, k0_part359_eq_skeleton,
      k0_part360_eq_skeleton, k0_part361_eq_skeleton]
    iintro ⟨H1, H2, H3, H4, H5, H6, H7, H8⟩
    sl_exec (disch := first | sl_exact hc0)
    sl_step
    sl_close

end Cert.KernelIdeal.Hand

end
-- ==== Proof.PiecesB.lean ====
/- The pieces the body writes past the first grid point are the sixteen tiles. -/
module

public import proofs.«01_k».proof.Proof.RunB
public import proofs.«01_k».proof.Proof.Tile

@[expose] public section

set_option maxRecDepth 16384

noncomputable section

namespace Cert.KernelIdeal.Hand

open Idealize.ShloMosaic Idealize.ShloMosaic.TcCoe Idealize.ShloMosaic.Tactic
open Idealize.ShloMosaic.Pipeline (Dat Cfg Window BodyObligation cellOf)
open Cert.KernelIdeal.Gen

variable {F : FTy → Type} [FloatOps F]

/-- PAST THE FIRST POINT the body writes the sixteen tiles, made from what the buffers hold. -/
theorem runB_pieces (c : Dev nD) (i : grid0.Coords) (arg1 : Memref sig .tc .smem S48x64 .f32) (harg1 : arg1.IsWhole) (arg2 : Memref sig .tc .vmem S512x8192 .bf16)
    (harg2 : arg2.IsWhole) (arg3 : Memref sig .tc .vmem S8192x512 .fp8e4m3) (harg3 : arg3.IsWhole)
    (arg4 : Memref sig .tc .vmem S64x8x512 .bf16) (harg4 : arg4.IsWhole) (arg5 : Memref sig .tc .vmem S512x8192 .fp8e4m3)
    (harg5 : arg5.IsWhole) (arg6 : Memref sig .tc .vmem S2x64x256 .f32) (harg6 : arg6.IsWhole)
    (arg7 : Memref sig .tc .vmem S64x512x128 .f32) (harg7 : arg7.IsWhole) (arg8 : Memref sig .tc .vmem S512x128 .f32)
    (harg8 : arg8.IsWhole) (hc0 : ¬ (k0_cond1 i = 1#1))
    (f1 : BufTy.Contents (Elt F) arg1.view.ty)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty) :
    (runB c i arg1 harg1 arg2 harg2 arg3 harg3 arg4 harg4 arg5 harg5 arg6 harg6 arg7 harg7 arg8 harg8 hc0 f1 f2 f3 f4 f5 f6 f7 f8).1
      = outPieces i (arg1.view.read (Elt F) f1) (arg3.view.read (Elt F) f3) (arg5.view.read (Elt F) f5) (arg7.view.read (Elt F) f7) := by
  rfl

end Cert.KernelIdeal.Hand

end
-- ==== Proof.Loop.lean ====
/- What the quantising loop leaves in its three buffers. -/
module

public import proofs.«01_k».proof.Proof.Gen.KernelIdeal.Loops
public import Idealize.ShloMosaic.Lib.Pipeline.Value
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.ShloMosaic.Pipeline (Dat Cfg Window BodyObligation cellOf)
open Idealize.ShloMosaic.Pointwise
open Cert.KernelIdeal.Gen

variable {F : FTy → Type} [FloatOps F]

instance : ∀ e, Nonempty (Elt F e) := fun e => inferInstance

/-- Group `g` of the rows of `x`: its 128 columns from column `128 g`. -/
def grp (x : S512x8192.Idx → Elt F .bf16) (g : Fin 64) : Vec F S512x128 .bf16 :=
  fun j => x (ix2 (j 0) ⟨128 * g.val + (j 1).val, by have := (j 1).isLt; have e : S512x128.size 1 = 128 := rfl; omega⟩)

/-- The group a column of `x` lies in, -/
def gOf (n : Fin 8192) : Fin 64 := ⟨n.val / 128, by omega⟩
/-- and its place in the group. -/
def kOf (n : Fin 8192) : Fin 128 := ⟨n.val % 128, by omega⟩

/-- The codes of all of `x`. -/
def XC (x : S512x8192.Idx → Elt F .bf16) : S512x8192.Idx → Elt F .fp8e4m3 :=
  fun j => k0_pay6 (k0_pay4 (grp x (gOf (j 1)))) (ix2 (j 0) (kOf (j 1)))

/-- Each group's row scales, one copy for each of 128 columns. -/
def SXB (x : S512x8192.Idx → Elt F .bf16) : S64x512x128.Idx → Elt F .f32 :=
  fun j => k0_pay7 (k0_pay3 (grp x (j 0))) (ix3 0 (j 1) (j 2))

/-- The table of row scales after `k` groups, group `g` in column `g`, zero elsewhere. -/
def tab (x : S512x8192.Idx → Elt F .bf16) : Nat → S512x128.Idx → Elt F .f32
  | 0 => k0_pay5
  | k + 1 => if h : k < 64 then k0_pay8 (Scf.iv 0#32 1#32 k) (k0_pay3 (grp x ⟨k, h⟩)) (tab x k) else tab x k

theorem off1_eq : ∀ k : Fin k0_t1_loop.trips, k0_off1 k = ![0, 128 * k.val] := by decide +kernel
theorem off2_eq : ∀ k : Fin k0_t1_loop.trips, k0_off2 k = ![k.val, 0, 0] := by decide +kernel
theorem trips_eq : k0_t1_loop.trips = 64 := by decide +kernel

theorem emb1 (off : Fin 2 → Nat) (inb) (j : S512x128.Idx) (k : Nat) (h : off = ![0, 128 * k]) :
    ((Rect.unit (s := S512x8192) off S512x128.size inb).emb j 0).val = (j 0).val
      ∧ ((Rect.unit (s := S512x8192) off S512x128.size inb).emb j 1).val = 128 * k + (j 1).val := by
  subst h
  constructor
  · show 0 + 1 * (j 0).val = _; omega
  · show 128 * k + 1 * (j 1).val = _; omega

theorem emb2 (off : Fin 3 → Nat) (inb) (j : S1x512x128.Idx) (k : Nat) (h : off = ![k, 0, 0]) :
    ((Rect.unit (s := S64x512x128) off S1x512x128.size inb).emb j 0).val = k
      ∧ ((Rect.unit (s := S64x512x128) off S1x512x128.size inb).emb j 1).val = (j 1).val
      ∧ ((Rect.unit (s := S64x512x128) off S1x512x128.size inb).emb j 2).val = (j 2).val := by
  subst h
  refine ⟨?_, ?_, ?_⟩
  · have := (j 0).isLt
    have e : S1x512x128.size 0 = 1 := rfl
    show k + 1 * (j 0).val = _; omega
  · show 0 + 1 * (j 1).val = _; omega
  · show 0 + 1 * (j 2).val = _; omega

/-- What a trip loads of `x` is its group. -/
theorem ld_grp (x : S512x8192.Idx → Elt F .bf16) (k : Fin k0_t1_loop.trips) (inb) :
    View.ld x (Rect.unit (s := S512x8192) (k0_off1 k) S512x128.size inb) = grp x ⟨k.val, lt_of_lt_of_eq k.isLt trips_eq⟩ := by
  funext j
  unfold grp
  show x ((Rect.unit (s := S512x8192) (k0_off1 k) S512x128.size inb).emb j) = _
  obtain ⟨h0, h1⟩ := emb1 (k0_off1 k) inb j k.val (off1_eq k)
  congr 1
  funext a
  match a with
  | ⟨0, _⟩ => exact Fin.ext h0
  | ⟨1, _⟩ => exact Fin.ext h1

theorem XC_at (x : S512x8192.Idx → Elt F .bf16) (g : Fin 64) (y : S512x128.Idx) (z : S512x8192.Idx)
    (h0 : (z 0).val = (y 0).val) (h1 : (z 1).val = 128 * g.val + (y 1).val) :
    k0_pay6 (k0_pay4 (grp x g)) y = XC x z := by
  have hy : (y 1).val < 128 := (y 1).isLt
  have hg : gOf (z 1) = g := by apply Fin.ext; show (z 1).val / 128 = g.val; omega
  have hk : kOf (z 1) = y 1 := by apply Fin.ext; show (z 1).val % 128 = (y 1).val; omega
  unfold XC
  rw [hg, hk]
  refine congrArg (k0_pay6 (k0_pay4 (grp x g))) (funext fun a => ?_)
  match a with
  | ⟨0, _⟩ => exact Fin.ext h0.symm
  | ⟨1, _⟩ => rfl

theorem SXB_at (x : S512x8192.Idx → Elt F .bf16) (g : Fin 64) (y : S1x512x128.Idx) (z : S64x512x128.Idx)
    (h0 : (z 0).val = g.val) (h1 : (z 1).val = (y 1).val) (h2 : (z 2).val = (y 2).val) :
    k0_pay7 (k0_pay3 (grp x g)) y = SXB x z := by
  have hg : z 0 = g := Fin.ext h0
  unfold SXB
  rw [hg]
  refine congrArg (k0_pay7 (k0_pay3 (grp x g))) (funext fun a => ?_)
  match a with
  | ⟨0, _⟩ => exact Subsingleton.elim (α := Fin 1) _ _
  | ⟨1, _⟩ => exact Fin.ext h1.symm
  | ⟨2, _⟩ => exact Fin.ext h2.symm

/-- One more group's codes on top of pieces that are blocks of the codes. -/
theorem codes_cons (x : S512x8192.Idx → Elt F .bf16) (k : Fin k0_t1_loop.trips) (inb)
    (L : List (View.Piece (Elt F) S512x8192 .fp8e4m3)) (hL : ∀ p ∈ L, ∀ y : p.1.shape.Idx, p.2 y = XC x (p.1.emb y)) :
    ∀ p ∈ (⟨Rect.unit (s := S512x8192) (k0_off1 k) S512x128.size inb,
        k0_pay6 (k0_pay4 (grp x ⟨k.val, lt_of_lt_of_eq k.isLt trips_eq⟩))⟩ : View.Piece (Elt F) S512x8192 .fp8e4m3) :: L,
      ∀ y : p.1.shape.Idx, p.2 y = XC x (p.1.emb y) := by
  intro p hp
  rcases List.mem_cons.mp hp with rfl | hp
  · intro y
    obtain ⟨h0, h1⟩ := emb1 (k0_off1 k) inb y k.val (off1_eq _)
    exact XC_at _ _ y _ h0 h1
  · exact hL p hp

theorem codes_cover (k : Fin k0_t1_loop.trips) (inb) (v) (L : List (View.Piece (Elt F) S512x8192 .fp8e4m3))
    (hL : ∀ y : S512x8192.Idx, (y 1).val < 128 * k.val → ∃ p ∈ L, y ∈ p.1.set) :
    ∀ y : S512x8192.Idx, (y 1).val < 128 * (k.val + 1) →
      ∃ p ∈ (⟨Rect.unit (s := S512x8192) (k0_off1 k) S512x128.size inb, v⟩ : View.Piece (Elt F) S512x8192 .fp8e4m3) :: L, y ∈ p.1.set := by
  intro y hy
  by_cases hl : (y 1).val < 128 * k.val
  · obtain ⟨p, hp, hm⟩ := hL y hl
    exact ⟨p, List.mem_cons_of_mem _ hp, hm⟩
  · refine ⟨_, List.mem_cons_self, ?_⟩
    have h0 := (y 0).isLt
    have e0 : S512x8192.size 0 = 512 := rfl
    refine (Rect.mem_set_unit (inb := inb)).mpr fun a => ?_
    rw [off1_eq]
    match a with
    | ⟨0, _⟩ => exact ⟨Nat.zero_le _, by show (y 0).val < 0 + 512; omega⟩
    | ⟨1, _⟩ => exact ⟨by show 128 * k.val ≤ (y 1).val; omega, by show (y 1).val < 128 * k.val + 128; omega⟩

/-- One more group's scales on top of pieces that are blocks of the scales. -/
theorem scales_cons (x : S512x8192.Idx → Elt F .bf16) (k : Fin k0_t1_loop.trips) (inb)
    (L : List (View.Piece (Elt F) S64x512x128 .f32)) (hL : ∀ p ∈ L, ∀ y : p.1.shape.Idx, p.2 y = SXB x (p.1.emb y)) :
    ∀ p ∈ (⟨Rect.unit (s := S64x512x128) (k0_off2 k) S1x512x128.size inb,
        k0_pay7 (k0_pay3 (grp x ⟨k.val, lt_of_lt_of_eq k.isLt trips_eq⟩))⟩ : View.Piece (Elt F) S64x512x128 .f32) :: L,
      ∀ y : p.1.shape.Idx, p.2 y = SXB x (p.1.emb y) := by
  intro p hp
  rcases List.mem_cons.mp hp with rfl | hp
  · intro y
    obtain ⟨h0, h1, h2⟩ := emb2 (k0_off2 k) inb y k.val (off2_eq _)
    exact SXB_at _ _ y _ h0 h1 h2
  · exact hL p hp

theorem scales_cover (k : Fin k0_t1_loop.trips) (inb) (v) (L : List (View.Piece (Elt F) S64x512x128 .f32))
    (hL : ∀ y : S64x512x128.Idx, (y 0).val < k.val → ∃ p ∈ L, y ∈ p.1.set) :
    ∀ y : S64x512x128.Idx, (y 0).val < k.val + 1 →
      ∃ p ∈ (⟨Rect.unit (s := S64x512x128) (k0_off2 k) S1x512x128.size inb, v⟩ : View.Piece (Elt F) S64x512x128 .f32) :: L, y ∈ p.1.set := by
  intro y hy
  by_cases hl : (y 0).val < k.val
  · obtain ⟨p, hp, hm⟩ := hL y hl
    exact ⟨p, List.mem_cons_of_mem _ hp, hm⟩
  · refine ⟨_, List.mem_cons_self, ?_⟩
    have h1 := (y 1).isLt
    have e1 : S64x512x128.size 1 = 512 := rfl
    have h2 := (y 2).isLt
    have e2 : S64x512x128.size 2 = 128 := rfl
    refine (Rect.mem_set_unit (inb := inb)).mpr fun a => ?_
    rw [off2_eq]
    match a with
    | ⟨0, _⟩ => exact ⟨by show k.val ≤ (y 0).val; omega, by show (y 0).val < k.val + 1; omega⟩
    | ⟨1, _⟩ => exact ⟨Nat.zero_le _, by show (y 1).val < 0 + 512; omega⟩
    | ⟨2, _⟩ => exact ⟨Nat.zero_le _, by show (y 2).val < 0 + 128; omega⟩

/-- What holds of the three buffers' pieces after `k` trips. -/
def State (x : S512x8192.Idx → Elt F .bf16) (arg8 : Memref sig .tc .vmem S512x128 .f32) (G8 : BufTy.Contents (Elt F) arg8.view.ty) (k : Nat)
    (P : List (View.Piece (Elt F) S512x8192 .fp8e4m3) × List (View.Piece (Elt F) S64x512x128 .f32) × List (View.Piece (Elt F) S512x128 .f32)) : Prop :=
  (∀ p ∈ P.1, ∀ y : p.1.shape.Idx, p.2 y = XC x (p.1.emb y))
    ∧ (∀ y : S512x8192.Idx, (y 1).val < 128 * k → ∃ p ∈ P.1, y ∈ p.1.set)
    ∧ (∀ p ∈ P.2.1, ∀ y : p.1.shape.Idx, p.2 y = SXB x (p.1.emb y))
    ∧ (∀ y : S64x512x128.Idx, (y 0).val < k → ∃ p ∈ P.2.1, y ∈ p.1.set)
    ∧ arg8.view.read (Elt F) (arg8.view.writes (Elt F) G8 P.2.2) = tab x k

theorem zeros2 : (![0, 0] : Fin 2 → Nat) = fun _ => 0 := by funext a; fin_cases a <;> rfl

/-- A write of the whole table leaves what is written. -/
theorem whole_write (arg8 : Memref sig .tc .vmem S512x128 .f32) (G8 : BufTy.Contents (Elt F) arg8.view.ty)
    (L : List (View.Piece (Elt F) S512x128 .f32)) (v : Vec F S512x128 .f32) :
    arg8.view.read (Elt F) (arg8.view.writes (Elt F) G8
      ((⟨Rect.unit (s := S512x128) ![0, 0] S512x128.size inb_S512x128_S512x128_0_0, v⟩ : View.Piece (Elt F) S512x128 .f32) :: L)) = v := by
  have hc : ∀ y : S512x128.Idx, ∃ p ∈ ((⟨Rect.unit (s := S512x128) ![0, 0] S512x128.size inb_S512x128_S512x128_0_0, v⟩ : View.Piece (Elt F) S512x128 .f32) :: L), y ∈ p.1.set := by
    intro y
    refine ⟨⟨Rect.unit (s := S512x128) ![0, 0] S512x128.size inb_S512x128_S512x128_0_0, v⟩, List.mem_cons_self, ?_⟩
    exact View.mem_set_unit_zero (S := S512x128) zeros2 inb_S512x128_S512x128_0_0 y
  exact (View.read_writes_eq_canon arg8.view G8 _ hc).trans
    (View.canon_cons_unit_zero (S := S512x128) zeros2 inb_S512x128_S512x128_0_0 v L)

/-- A load of the whole table reads it. -/
theorem whole_ld (X : S512x128.Idx → Elt F .f32) :
    View.ld X (Rect.unit (s := S512x128) ![0, 0] S512x128.size inb_S512x128_S512x128_0_0) = X := View.ld_unit_zero zeros2 _ _

/-- One trip keeps it. -/
theorem State.step (x : S512x8192.Idx → Elt F .bf16) (arg8 : Memref sig .tc .vmem S512x128 .f32) (G8 : BufTy.Contents (Elt F) arg8.view.ty)
    (k : Fin k0_t1_loop.trips) (inb1) (inb2) (P) (h : State x arg8 G8 k.val P) :
    State x arg8 G8 (k.val + 1)
      ((⟨Rect.unit (s := S512x8192) (k0_off1 k) S512x128.size inb1,
        k0_pay6 (k0_pay4 (grp x ⟨k.val, lt_of_lt_of_eq k.isLt trips_eq⟩))⟩ : View.Piece (Elt F) S512x8192 .fp8e4m3) :: P.1,
       (⟨Rect.unit (s := S64x512x128) (k0_off2 k) S1x512x128.size inb2,
        k0_pay7 (k0_pay3 (grp x ⟨k.val, lt_of_lt_of_eq k.isLt trips_eq⟩))⟩ : View.Piece (Elt F) S64x512x128 .f32) :: P.2.1,
       (⟨Rect.unit (s := S512x128) ![0, 0] S512x128.size inb_S512x128_S512x128_0_0,
        k0_pay8 (Scf.iv 0#32 1#32 k) (k0_pay3 (grp x ⟨k.val, lt_of_lt_of_eq k.isLt trips_eq⟩))
          (View.ld (arg8.view.read (Elt F) (arg8.view.writes (Elt F) G8 P.2.2)) (Rect.unit (s := S512x128) ![0, 0] S512x128.size inb_S512x128_S512x128_0_0))⟩ : View.Piece (Elt F) S512x128 .f32) :: P.2.2) := by
  obtain ⟨i1, i2, i3, i4, i5⟩ := h
  refine ⟨codes_cons x k inb1 P.1 i1, codes_cover k inb1 _ P.1 i2, scales_cons x k inb2 P.2.1 i3, scales_cover k inb2 _ P.2.1 i4, ?_⟩
  refine (whole_write arg8 G8 P.2.2 _).trans ?_
  rw [i5, whole_ld]
  show _ = (if h : k.val < 64 then _ else _)
  rw [dif_pos (lt_of_lt_of_eq k.isLt trips_eq)]

variable (c : Dev nD) (i : grid0.Coords) (arg1 : Memref sig .tc .smem S48x64 .f32) (harg1 : arg1.IsWhole) (arg2 : Memref sig .tc .vmem S512x8192 .bf16)
    (harg2 : arg2.IsWhole) (arg3 : Memref sig .tc .vmem S8192x512 .fp8e4m3) (harg3 : arg3.IsWhole)
    (arg4 : Memref sig .tc .vmem S64x8x512 .bf16) (harg4 : arg4.IsWhole) (arg5 : Memref sig .tc .vmem S512x8192 .fp8e4m3)
    (harg5 : arg5.IsWhole) (arg6 : Memref sig .tc .vmem S2x64x256 .f32) (harg6 : arg6.IsWhole)
    (arg7 : Memref sig .tc .vmem S64x512x128 .f32) (harg7 : arg7.IsWhole) (arg8 : Memref sig .tc .vmem S512x128 .f32)
    (harg8 : arg8.IsWhole) (hc0 : k0_cond1 i = 1#1)
    (f2 : BufTy.Contents (Elt F) arg2.view.ty)

/-- A trip's pieces: the group's codes, its scales, and the table with its column filled in. -/
theorem trip_pieces (k : Fin k0_t1_loop.trips) (a : BufTy.Contents (Elt F) arg5.view.ty)
    (b : BufTy.Contents (Elt F) arg7.view.ty) (d : BufTy.Contents (Elt F) arg8.view.ty) :
    tripL_k0_t1 (F := F) Variants.none c none i arg1 harg1 arg2 harg2 arg3 harg3 arg4 harg4 arg5 harg5 arg6 harg6 arg7 harg7 arg8 harg8 hc0 f2 k a b d
      = ([⟨Rect.unit (s := S512x8192) (k0_off1 k) S512x128.size (k0_off1_inb i k hc0),
            k0_pay6 (k0_pay4 (View.ld (arg2.view.read (Elt F) f2)
              (Rect.unit (s := S512x8192) (k0_off1 k) S512x128.size (k0_off1_inb i k hc0))))⟩],
          [⟨Rect.unit (s := S64x512x128) (k0_off2 k) S1x512x128.size (k0_off2_inb i k hc0),
            k0_pay7 (k0_pay3 (View.ld (arg2.view.read (Elt F) f2)
              (Rect.unit (s := S512x8192) (k0_off1 k) S512x128.size (k0_off1_inb i k hc0))))⟩],
          [⟨Rect.unit (s := S512x128) ![0, 0] S512x128.size inb_S512x128_S512x128_0_0,
            k0_pay8 (Scf.iv 0#32 1#32 k) (k0_pay3 (View.ld (arg2.view.read (Elt F) f2)
              (Rect.unit (s := S512x8192) (k0_off1 k) S512x128.size (k0_off1_inb i k hc0))))
              (View.ld (arg8.view.read (Elt F) d)
                (Rect.unit (s := S512x128) ![0, 0] S512x128.size inb_S512x128_S512x128_0_0))⟩]) := by
  unfold tripL_k0_t1 trip_k0_t1
  rfl

variable (f5 : BufTy.Contents (Elt F) arg5.view.ty) (f7 : BufTy.Contents (Elt F) arg7.view.ty)
    (G8 : BufTy.Contents (Elt F) arg8.view.ty)

/-- AFTER `k` TRIPS: every piece written is a block of the codes or of the scales, the first `k` groups are covered, and
    the table holds its first `k` columns. -/
theorem loop_state (h8 : arg8.view.read (Elt F) G8 = k0_pay5) : ∀ k : Nat, k ≤ 64 →
    State (arg2.view.read (Elt F) f2) arg8 G8 k
      (pb_k0_t1 (F := F) Variants.none c none i arg1 harg1 arg2 harg2 arg3 harg3 arg4 harg4 arg5 harg5 arg6 harg6 arg7 harg7 arg8 harg8 hc0 f2 f5 f7 G8 k) := by
  intro k
  induction k with
  | zero =>
    intro _
    exact ⟨fun p hp => absurd hp List.not_mem_nil, fun y hy => absurd hy (by omega), fun p hp => absurd hp List.not_mem_nil,
      fun y hy => absurd hy (by omega), h8⟩
  | succ k ih =>
    intro hk
    have hkt : k < k0_t1_loop.trips := by rw [trips_eq]; omega
    have hs := pb_k0_t1_succ (F := F) Variants.none c none i arg1 harg1 arg2 harg2 arg3 harg3 arg4 harg4 arg5 harg5 arg6 harg6 arg7 harg7 arg8 harg8 hc0 f2 f5 f7 G8 ⟨k, hkt⟩
    rw [trip_pieces, ld_grp] at hs
    exact (congrArg (State (arg2.view.read (Elt F) f2) arg8 G8 (k + 1)) hs).mpr
      (State.step (arg2.view.read (Elt F) f2) arg8 G8 ⟨k, hkt⟩ _ _ _ (ih (by omega)))

end Cert.KernelIdeal.Hand

end
-- ==== Proof.Outs.lean ====
/- What the body leaves in each buffer it writes, at the first grid point and at a later one. -/
module

public import proofs.«01_k».proof.Proof.PiecesA
public import proofs.«01_k».proof.Proof.PiecesB
public import proofs.«01_k».proof.Proof.Loop

@[expose] public section

set_option maxRecDepth 16384

noncomputable section

namespace Cert.KernelIdeal.Hand

open Idealize.ShloMosaic Idealize.ShloMosaic.TcCoe Idealize.ShloMosaic.Tactic
open Idealize.ShloMosaic.Pipeline (Dat Cfg Window BodyObligation cellOf)
open Cert.KernelIdeal.Gen

variable {F : FTy → Type} [FloatOps F]

/-- A tile's place in the output block. -/
theorem mem_tile (a b : Nat) (inb) (y : S64x8x512.Idx) (h0 : a ≤ (y 0).val ∧ (y 0).val < a + 16) (h2 : b ≤ (y 2).val ∧ (y 2).val < b + 128) :
    y ∈ (Rect.unit (s := S64x8x512) ![a, 0, b] S16x8x128.size inb).set := by
  refine (Rect.mem_set_unit (inb := inb)).mpr fun d => ?_
  have h1 := (y 1).isLt
  have e1 : S64x8x512.size 1 = 8 := rfl
  match d with
  | ⟨0, _⟩ => exact h0
  | ⟨1, _⟩ => exact ⟨Nat.zero_le _, by show (y 1).val < 0 + 8; omega⟩
  | ⟨2, _⟩ => exact h2

/-- The sixteen tiles cover the output block. -/
theorem outPieces_cover (i : grid0.Coords) (R1 : S48x64.Idx → Elt F .f32) (R3 : S8192x512.Idx → Elt F .fp8e4m3)
    (R5 : S512x8192.Idx → Elt F .fp8e4m3) (R7 : S64x512x128.Idx → Elt F .f32) (y : S64x8x512.Idx) :
    ∃ p ∈ outPieces i R1 R3 R5 R7, y ∈ p.1.set := by
  have h0 : (y 0).val < 64 := (y 0).isLt
  have h2 : (y 2).val < 512 := (y 2).isLt
  unfold outPieces
  by_cases r3 : 48 ≤ (y 0).val
  · by_cases c3 : 384 ≤ (y 2).val
    · exact ⟨_, List.mem_cons_self, mem_tile 48 384 inb_S64x8x512_S16x8x128_48_0_384 y ⟨by omega, by omega⟩ ⟨by omega, by omega⟩⟩
    · by_cases c2 : 256 ≤ (y 2).val
      · exact ⟨_, List.mem_cons_of_mem _ List.mem_cons_self, mem_tile 48 256 inb_S64x8x512_S16x8x128_48_0_256 y ⟨by omega, by omega⟩ ⟨by omega, by omega⟩⟩
      · by_cases c1 : 128 ≤ (y 2).val
        · exact ⟨_, List.mem_cons_of_mem _ (List.mem_cons_of_mem _ List.mem_cons_self), mem_tile 48 128 inb_S64x8x512_S16x8x128_48_0_128 y ⟨by omega, by omega⟩ ⟨by omega, by omega⟩⟩
        · exact ⟨_, List.mem_cons_of_mem _ (List.mem_cons_of_mem _ (List.mem_cons_of_mem _ List.mem_cons_self)), mem_tile 48 0 inb_S64x8x512_S16x8x128_48_0_0 y ⟨by omega, by omega⟩ ⟨by omega, by omega⟩⟩
  · by_cases r2 : 32 ≤ (y 0).val
    · by_cases c3 : 384 ≤ (y 2).val
      · exact ⟨_, List.mem_cons_of_mem _ (List.mem_cons_of_mem _ (List.mem_cons_of_mem _ (List.mem_cons_of_mem _ List.mem_cons_self))), mem_tile 32 384 inb_S64x8x512_S16x8x128_32_0_384 y ⟨by omega, by omega⟩ ⟨by omega, by omega⟩⟩
      · by_cases c2 : 256 ≤ (y 2).val
        · exact ⟨_, List.mem_cons_of_mem _ (List.mem_cons_of_mem _ (List.mem_cons_of_mem _ (List.mem_cons_of_mem _ (List.mem_cons_of_mem _ List.mem_cons_self)))), mem_tile 32 256 inb_S64x8x512_S16x8x128_32_0_256 y ⟨by omega, by omega⟩ ⟨by omega, by omega⟩⟩
        · by_cases c1 : 128 ≤ (y 2).val
          · exact ⟨_, List.mem_cons_of_mem _ (List.mem_cons_of_mem _ (List.mem_cons_of_mem _ (List.mem_cons_of_mem _ (List.mem_cons_of_mem _ (List.mem_cons_of_mem _ List.mem_cons_self))))), mem_tile 32 128 inb_S64x8x512_S16x8x128_32_0_128 y ⟨by omega, by omega⟩ ⟨by omega, by omega⟩⟩
          · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_tile 32 0 inb_S64x8x512_S16x8x128_32_0_0 y ⟨by omega, by omega⟩ ⟨by omega, by omega⟩⟩
    · by_cases r1 : 16 ≤ (y 0).val
      · by_cases c3 : 384 ≤ (y 2).val
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), mem_tile 16 384 inb_S64x8x512_S16x8x128_16_0_384 y ⟨by omega, by omega⟩ ⟨by omega, by omega⟩⟩
        · by_cases c2 : 256 ≤ (y 2).val
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_tile 16 256 inb_S64x8x512_S16x8x128_16_0_256 y ⟨by omega, by omega⟩ ⟨by omega, by omega⟩⟩
          · by_cases c1 : 128 ≤ (y 2).val
            · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_tile 16 128 inb_S64x8x512_S16x8x128_16_0_128 y ⟨by omega, by omega⟩ ⟨by omega, by omega⟩⟩
            · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_tile 16 0 inb_S64x8x512_S16x8x128_16_0_0 y ⟨by omega, by omega⟩ ⟨by omega, by omega⟩⟩
      · by_cases c3 : 384 ≤ (y 2).val
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_tile 0 384 inb_S64x8x512_S16x8x128_0_0_384 y ⟨by omega, by omega⟩ ⟨by omega, by omega⟩⟩
        · by_cases c2 : 256 ≤ (y 2).val
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_tile 0 256 inb_S64x8x512_S16x8x128_0_0_256 y ⟨by omega, by omega⟩ ⟨by omega, by omega⟩⟩
          · by_cases c1 : 128 ≤ (y 2).val
            · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_tile 0 128 inb_S64x8x512_S16x8x128_0_0_128 y ⟨by omega, by omega⟩ ⟨by omega, by omega⟩⟩
            · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_tile 0 0 inb_S64x8x512_S16x8x128_0_0_0 y ⟨by omega, by omega⟩ ⟨by omega, by omega⟩⟩

/-- The two blocks of row scales, made from the table. -/
def xsPieces (T : S512x128.Idx → Elt F .f32) : List (View.Piece (Elt F) S2x64x256 .f32) :=
  [⟨Rect.unit (s := S2x64x256) ![1, 0, 0] S1x64x256.size inb_S2x64x256_S1x64x256_1_0_0, k0_pay11 T⟩,
    ⟨Rect.unit (s := S2x64x256) ![0, 0, 0] S1x64x256.size inb_S2x64x256_S1x64x256_0_0_0, k0_pay10 T⟩]

theorem mem_xs (a : Nat) (inb) (y : S2x64x256.Idx) (h0 : (y 0).val = a) :
    y ∈ (Rect.unit (s := S2x64x256) ![a, 0, 0] S1x64x256.size inb).set := by
  refine (Rect.mem_set_unit (inb := inb)).mpr fun d => ?_
  have h1 := (y 1).isLt
  have e1 : S2x64x256.size 1 = 64 := rfl
  have h2 := (y 2).isLt
  have e2 : S2x64x256.size 2 = 256 := rfl
  match d with
  | ⟨0, _⟩ => exact ⟨by show a ≤ (y 0).val; omega, by show (y 0).val < a + 1; omega⟩
  | ⟨1, _⟩ => exact ⟨Nat.zero_le _, by show (y 1).val < 0 + 64; omega⟩
  | ⟨2, _⟩ => exact ⟨Nat.zero_le _, by show (y 2).val < 0 + 256; omega⟩

theorem xsPieces_cover (T : S512x128.Idx → Elt F .f32) (y : S2x64x256.Idx) : ∃ p ∈ xsPieces T, y ∈ p.1.set := by
  have h0 : (y 0).val < 2 := (y 0).isLt
  unfold xsPieces
  by_cases h : (y 0).val = 1
  · exact ⟨_, List.mem_cons_self, mem_xs 1 inb_S2x64x256_S1x64x256_1_0_0 y h⟩
  · exact ⟨_, List.mem_cons_of_mem _ List.mem_cons_self, mem_xs 0 inb_S2x64x256_S1x64x256_0_0_0 y (by omega)⟩

/-- All the row scales, transposed. -/
def XS (x : S512x8192.Idx → Elt F .bf16) : S2x64x256.Idx → Elt F .f32 := View.canon (xsPieces (tab x 64))

/-- The output block at a grid point, from the contents of the buffers it is made of. -/
def YB (i : grid0.Coords) (R1 : S48x64.Idx → Elt F .f32) (R3 : S8192x512.Idx → Elt F .fp8e4m3)
    (R5 : S512x8192.Idx → Elt F .fp8e4m3) (R7 : S64x512x128.Idx → Elt F .f32) : S64x8x512.Idx → Elt F .bf16 :=
  View.canon (outPieces i R1 R3 R5 R7)

variable (c : Dev nD) (i : grid0.Coords) (arg1 : Memref sig .tc .smem S48x64 .f32) (harg1 : arg1.IsWhole) (arg2 : Memref sig .tc .vmem S512x8192 .bf16)
    (harg2 : arg2.IsWhole) (arg3 : Memref sig .tc .vmem S8192x512 .fp8e4m3) (harg3 : arg3.IsWhole)
    (arg4 : Memref sig .tc .vmem S64x8x512 .bf16) (harg4 : arg4.IsWhole) (arg5 : Memref sig .tc .vmem S512x8192 .fp8e4m3)
    (harg5 : arg5.IsWhole) (arg6 : Memref sig .tc .vmem S2x64x256 .f32) (harg6 : arg6.IsWhole)
    (arg7 : Memref sig .tc .vmem S64x512x128 .f32) (harg7 : arg7.IsWhole) (arg8 : Memref sig .tc .vmem S512x128 .f32)
    (harg8 : arg8.IsWhole) (hc0 : k0_cond1 i = 1#1)
    (f1 : BufTy.Contents (Elt F) arg1.view.ty)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)

/-- The loop's end. -/
theorem loop_end : State (arg2.view.read (Elt F) f2) arg8 (arg8.view.writes (Elt F) arg8.view.junk [⟨Rect.unit (s := S512x128) ![0, 0] S512x128.size inb_S512x128_S512x128_0_0, k0_pay5⟩]) 64
    (loopPieces c i arg1 harg1 arg2 harg2 arg3 harg3 arg4 harg4 arg5 harg5 arg6 harg6 arg7 harg7 arg8 harg8 hc0 f2 f5 f7) := by
  have h := loop_state c i arg1 harg1 arg2 harg2 arg3 harg3 arg4 harg4 arg5 harg5 arg6 harg6 arg7 harg7 arg8 harg8 hc0 f2 f5 f7 _ (whole_write arg8 arg8.view.junk [] k0_pay5) k0_t1_loop.trips trips_eq.le
  exact (congrArg (fun n => State (arg2.view.read (Elt F) f2) arg8 (arg8.view.writes (Elt F) arg8.view.junk [⟨Rect.unit (s := S512x128) ![0, 0] S512x128.size inb_S512x128_S512x128_0_0, k0_pay5⟩]) n
    (loopPieces c i arg1 harg1 arg2 harg2 arg3 harg3 arg4 harg4 arg5 harg5 arg6 harg6 arg7 harg7 arg8 harg8 hc0 f2 f5 f7)) trips_eq).mp h

theorem loop_codes : arg5.view.read (Elt F) (arg5.view.writes (Elt F) f5 (loopPieces c i arg1 harg1 arg2 harg2 arg3 harg3 arg4 harg4 arg5 harg5 arg6 harg6 arg7 harg7 arg8 harg8 hc0 f2 f5 f7).1) = XC (arg2.view.read (Elt F) f2) := by
  obtain ⟨i1, i2, i3, i4, i5⟩ := loop_end c i arg1 harg1 arg2 harg2 arg3 harg3 arg4 harg4 arg5 harg5 arg6 harg6 arg7 harg7 arg8 harg8 hc0 f2 f5 f7
  have hc : ∀ y : S512x8192.Idx, ∃ p ∈ (loopPieces c i arg1 harg1 arg2 harg2 arg3 harg3 arg4 harg4 arg5 harg5 arg6 harg6 arg7 harg7 arg8 harg8 hc0 f2 f5 f7).1, y ∈ p.1.set := fun y => i2 y (by have := (y 1).isLt; have e : S512x8192.size 1 = 8192 := rfl; omega)
  rw [View.read_writes_eq_canon arg5.view f5 _ hc]
  funext y
  exact View.canon_apply_of_pieces _ _ i1 y (hc y)

theorem loop_scales : arg7.view.read (Elt F) (arg7.view.writes (Elt F) f7 (loopPieces c i arg1 harg1 arg2 harg2 arg3 harg3 arg4 harg4 arg5 harg5 arg6 harg6 arg7 harg7 arg8 harg8 hc0 f2 f5 f7).2.1) = SXB (arg2.view.read (Elt F) f2) := by
  obtain ⟨i1, i2, i3, i4, i5⟩ := loop_end c i arg1 harg1 arg2 harg2 arg3 harg3 arg4 harg4 arg5 harg5 arg6 harg6 arg7 harg7 arg8 harg8 hc0 f2 f5 f7
  have hc : ∀ y : S64x512x128.Idx, ∃ p ∈ (loopPieces c i arg1 harg1 arg2 harg2 arg3 harg3 arg4 harg4 arg5 harg5 arg6 harg6 arg7 harg7 arg8 harg8 hc0 f2 f5 f7).2.1, y ∈ p.1.set := fun y => i4 y (y 0).isLt
  rw [View.read_writes_eq_canon arg7.view f7 _ hc]
  funext y
  exact View.canon_apply_of_pieces _ _ i3 y (hc y)

/-- THE FIRST POINT: the output block, -/
theorem A_read4 : arg4.view.read (Elt F) (arg4.view.writes (Elt F) f4 (runA c i arg1 harg1 arg2 harg2 arg3 harg3 arg4 harg4 arg5 harg5 arg6 harg6 arg7 harg7 arg8 harg8 hc0 f1 f2 f3 f4 f5 f6 f7 f8).1)
    = YB i (arg1.view.read (Elt F) f1) (arg3.view.read (Elt F) f3) (XC (arg2.view.read (Elt F) f2)) (SXB (arg2.view.read (Elt F) f2)) := by
  rw [runA_pieces4, loop_codes, loop_scales]
  exact View.read_writes_eq_canon arg4.view f4 _ (outPieces_cover _ _ _ _ _)

/-- the codes, -/
theorem A_read5 : arg5.view.read (Elt F) (arg5.view.writes (Elt F) f5 (runA c i arg1 harg1 arg2 harg2 arg3 harg3 arg4 harg4 arg5 harg5 arg6 harg6 arg7 harg7 arg8 harg8 hc0 f1 f2 f3 f4 f5 f6 f7 f8).2.1) = XC (arg2.view.read (Elt F) f2) := by
  rw [runA_pieces5, loop_codes]

/-- the row scales, -/
theorem A_read6 : arg6.view.read (Elt F) (arg6.view.writes (Elt F) f6 (runA c i arg1 harg1 arg2 harg2 arg3 harg3 arg4 harg4 arg5 harg5 arg6 harg6 arg7 harg7 arg8 harg8 hc0 f1 f2 f3 f4 f5 f6 f7 f8).2.2.1) = XS (arg2.view.read (Elt F) f2) := by
  rw [runA_pieces6, (loop_end c i arg1 harg1 arg2 harg2 arg3 harg3 arg4 harg4 arg5 harg5 arg6 harg6 arg7 harg7 arg8 harg8 hc0 f2 f5 f7).2.2.2.2, whole_ld]
  exact View.read_writes_eq_canon arg6.view f6 _ (xsPieces_cover _)

/-- and the scales laid out for the later points. -/
theorem A_read7 : arg7.view.read (Elt F) (arg7.view.writes (Elt F) f7 (runA c i arg1 harg1 arg2 harg2 arg3 harg3 arg4 harg4 arg5 harg5 arg6 harg6 arg7 harg7 arg8 harg8 hc0 f1 f2 f3 f4 f5 f6 f7 f8).2.2.2.1) = SXB (arg2.view.read (Elt F) f2) := by
  rw [runA_pieces7, loop_scales]

/-- PAST THE FIRST POINT: the output block, from what the buffers hold. -/
theorem B_read4 (c : Dev nD) (i : grid0.Coords) (arg1 : Memref sig .tc .smem S48x64 .f32) (harg1 : arg1.IsWhole) (arg2 : Memref sig .tc .vmem S512x8192 .bf16)
    (harg2 : arg2.IsWhole) (arg3 : Memref sig .tc .vmem S8192x512 .fp8e4m3) (harg3 : arg3.IsWhole)
    (arg4 : Memref sig .tc .vmem S64x8x512 .bf16) (harg4 : arg4.IsWhole) (arg5 : Memref sig .tc .vmem S512x8192 .fp8e4m3)
    (harg5 : arg5.IsWhole) (arg6 : Memref sig .tc .vmem S2x64x256 .f32) (harg6 : arg6.IsWhole)
    (arg7 : Memref sig .tc .vmem S64x512x128 .f32) (harg7 : arg7.IsWhole) (arg8 : Memref sig .tc .vmem S512x128 .f32)
    (harg8 : arg8.IsWhole) (hc0 : ¬ (k0_cond1 i = 1#1))
    (f1 : BufTy.Contents (Elt F) arg1.view.ty)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty) :
    arg4.view.read (Elt F) (arg4.view.writes (Elt F) f4 (runB c i arg1 harg1 arg2 harg2 arg3 harg3 arg4 harg4 arg5 harg5 arg6 harg6 arg7 harg7 arg8 harg8 hc0 f1 f2 f3 f4 f5 f6 f7 f8).1)
      = YB i (arg1.view.read (Elt F) f1) (arg3.view.read (Elt F) f3) (arg5.view.read (Elt F) f5) (arg7.view.read (Elt F) f7) := by
  rw [runB_pieces]
  exact View.read_writes_eq_canon arg4.view f4 _ (outPieces_cover _ _ _ _ _)

end Cert.KernelIdeal.Hand

end
-- ==== Proof.Triple.lean ====
/- The body's two triples: what each buffer holds before it and after it. -/
module

public import proofs.«01_k».proof.Proof.Outs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A triple carried to any continuation. -/
theorem to_cont (c : Dev nD) {E : Set ℕ} {p : Prog (TpuEff nD τ sig (Elt F) Λ₀ .tc) PUnit} {P : sProp 𝕄} {Q K : PUnit → sProp 𝕄}
    (h : P ⊢ wp frame (wpE (defs₀ (F := F)) Variants.none c none) E p Q) :
    iprop(P ∗ (Q PUnit.unit -∗ K PUnit.unit)) ⊢ wp frame (wpE (defs₀ (F := F)) Variants.none c none) E p K := by
  refine (sep_mono_left h).trans ((wp_frame_r _ _ _).trans (wp_mono _ _ _ fun a => ?_))
  iintro ⟨H, Hk⟩
  iapply Hk
  iexact H

set_option maxHeartbeats 1600000 in
/-- AT THE FIRST POINT. -/
theorem kernelA (c : Dev nD) (i : grid0.Coords) (arg1 : Memref sig .tc .smem S48x64 .f32) (harg1 : arg1.IsWhole) (arg2 : Memref sig .tc .vmem S512x8192 .bf16)
    (harg2 : arg2.IsWhole) (arg3 : Memref sig .tc .vmem S8192x512 .fp8e4m3) (harg3 : arg3.IsWhole)
    (arg4 : Memref sig .tc .vmem S64x8x512 .bf16) (harg4 : arg4.IsWhole) (arg5 : Memref sig .tc .vmem S512x8192 .fp8e4m3)
    (harg5 : arg5.IsWhole) (arg6 : Memref sig .tc .vmem S2x64x256 .f32) (harg6 : arg6.IsWhole)
    (arg7 : Memref sig .tc .vmem S64x512x128 .f32) (harg7 : arg7.IsWhole) (arg8 : Memref sig .tc .vmem S512x128 .f32)
    (harg8 : arg8.IsWhole) (hc0 : k0_cond1 i = 1#1)
    (x1 : S48x64.Idx → Elt F .f32) (x2 : S512x8192.Idx → Elt F .bf16) (x3 : S8192x512.Idx → Elt F .fp8e4m3) (E : Set ℕ) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
      ∗ (iprop(owns (c : Thread nD τ) arg1 fullShare x1 ∗ owns (c : Thread nD τ) arg2 fullShare x2 ∗ owns (c : Thread nD τ) arg3 fullShare x3 ∗ owns (c : Thread nD τ) arg4 fullShare (YB i x1 x3 (XC x2) (SXB x2)) ∗ owns (c : Thread nD τ) arg5 fullShare (XC x2) ∗ owns (c : Thread nD τ) arg6 fullShare (XS x2) ∗ owns (c : Thread nD τ) arg7 fullShare (SXB x2) ∗ (∃ d, owns (c : Thread nD τ) arg8 fullShare d)) -∗ K PUnit.unit))
    ⊢ wp frame (wpE (defs₀ (F := F)) Variants.none c none) E (cc0_fp8_blockwise_linear i arg1 harg1 arg2 harg2 arg3 harg3 arg4 harg4 arg5 harg5 arg6 harg6 arg7 harg7 arg8 harg8) K := by
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  subst hf1 hf2 hf3
  iapply (to_cont c ((runA c i arg1 harg1 arg2 harg2 arg3 harg3 arg4 harg4 arg5 harg5 arg6 harg6 arg7 harg7 arg8 harg8 hc0 f1 f2 f3 f4 f5 f6 f7 f8).2.2.2.2.2 E))
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨H1, H2, H3, H4, H5, H6, H7, H8⟩
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact A_read4 c i arg1 harg1 arg2 harg2 arg3 harg3 arg4 harg4 arg5 harg5 arg6 harg6 arg7 harg7 arg8 harg8 hc0 f1 f2 f3 f4 f5 f6 f7 f8
  isplitl [H5]
  · iexists _; isplitr; swap; · iexact H5
    ipureintro; exact A_read5 c i arg1 harg1 arg2 harg2 arg3 harg3 arg4 harg4 arg5 harg5 arg6 harg6 arg7 harg7 arg8 harg8 hc0 f1 f2 f3 f4 f5 f6 f7 f8
  isplitl [H6]
  · iexists _; isplitr; swap; · iexact H6
    ipureintro; exact A_read6 c i arg1 harg1 arg2 harg2 arg3 harg3 arg4 harg4 arg5 harg5 arg6 harg6 arg7 harg7 arg8 harg8 hc0 f1 f2 f3 f4 f5 f6 f7 f8
  isplitl [H7]
  · iexists _; isplitr; swap; · iexact H7
    ipureintro; exact A_read7 c i arg1 harg1 arg2 harg2 arg3 harg3 arg4 harg4 arg5 harg5 arg6 harg6 arg7 harg7 arg8 harg8 hc0 f1 f2 f3 f4 f5 f6 f7 f8
  iexists _, _; isplitr; swap; · iexact H8
  ipureintro; rfl

set_option maxHeartbeats 1600000 in
/-- AT A LATER POINT. -/
theorem kernelB (c : Dev nD) (i : grid0.Coords) (arg1 : Memref sig .tc .smem S48x64 .f32) (harg1 : arg1.IsWhole) (arg2 : Memref sig .tc .vmem S512x8192 .bf16)
    (harg2 : arg2.IsWhole) (arg3 : Memref sig .tc .vmem S8192x512 .fp8e4m3) (harg3 : arg3.IsWhole)
    (arg4 : Memref sig .tc .vmem S64x8x512 .bf16) (harg4 : arg4.IsWhole) (arg5 : Memref sig .tc .vmem S512x8192 .fp8e4m3)
    (harg5 : arg5.IsWhole) (arg6 : Memref sig .tc .vmem S2x64x256 .f32) (harg6 : arg6.IsWhole)
    (arg7 : Memref sig .tc .vmem S64x512x128 .f32) (harg7 : arg7.IsWhole) (arg8 : Memref sig .tc .vmem S512x128 .f32)
    (harg8 : arg8.IsWhole) (hc0 : ¬ k0_cond1 i = 1#1)
    (x1 : S48x64.Idx → Elt F .f32) (x2 : S512x8192.Idx → Elt F .bf16) (x3 : S8192x512.Idx → Elt F .fp8e4m3)
    (x5 : S512x8192.Idx → Elt F .fp8e4m3) (x6 : S2x64x256.Idx → Elt F .f32) (x7 : S64x512x128.Idx → Elt F .f32) (E : Set ℕ) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg5 fullShare x5 ∗ owns (c : Thread nD τ) arg6 fullShare x6 ∗ owns (c : Thread nD τ) arg7 fullShare x7 ∗ (∃ d, owns (c : Thread nD τ) arg8 fullShare d)
      ∗ (iprop(owns (c : Thread nD τ) arg1 fullShare x1 ∗ owns (c : Thread nD τ) arg2 fullShare x2 ∗ owns (c : Thread nD τ) arg3 fullShare x3 ∗ owns (c : Thread nD τ) arg4 fullShare (YB i x1 x3 x5 x7) ∗ owns (c : Thread nD τ) arg5 fullShare x5 ∗ owns (c : Thread nD τ) arg6 fullShare x6 ∗ owns (c : Thread nD τ) arg7 fullShare x7 ∗ (∃ d, owns (c : Thread nD τ) arg8 fullShare d)) -∗ K PUnit.unit))
    ⊢ wp frame (wpE (defs₀ (F := F)) Variants.none c none) E (cc0_fp8_blockwise_linear i arg1 harg1 arg2 harg2 arg3 harg3 arg4 harg4 arg5 harg5 arg6 harg6 arg7 harg7 arg8 harg8) K := by
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%d8, %f8, -, H8⟩, Hk⟩
  subst hf1 hf2 hf3 hf5 hf6 hf7
  iapply (to_cont c ((runB c i arg1 harg1 arg2 harg2 arg3 harg3 arg4 harg4 arg5 harg5 arg6 harg6 arg7 harg7 arg8 harg8 hc0 f1 f2 f3 f4 f5 f6 f7 f8).2 E))
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨H1, H2, H3, H4, H5, H6, H7, H8⟩
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact B_read4 c i arg1 harg1 arg2 harg2 arg3 harg3 arg4 harg4 arg5 harg5 arg6 harg6 arg7 harg7 arg8 harg8 hc0 f1 f2 f3 f4 f5 f6 f7 f8
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  iexists _, _; isplitr; swap; · iexact H8
  ipureintro; rfl

end Cert.KernelIdeal.Hand

end
-- ==== Proof.Data.lean ====
/- The pipeline's proof data: what each window's buffer holds after each grid point. -/
module

public import proofs.«01_k».proof.Proof.Outs
public import Idealize.ShloMosaic.Lib.Pipeline.ValueKit.Geometry
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point is the one that quantises. -/
theorem hcond : ∀ t : Fin cfg0.N, k0_cond1 (grid0.coords t) = 1#1 ↔ t.val = 0 := by
  intro t
  have ht : t.val < 12 := Nat.lt_of_lt_of_eq t.isLt N_0
  have e0 : (grid0.coords t 0).val = t.val / 1 % 12 := Pipeline.Grid.coords_val t 0 (by decide) rfl
  have h : k0_cond1 (grid0.coords t) = 1#1 ↔ t.val % 12 = 0 := by
    simp only [k0_cond1, e0]
    word_cmp
  rw [h]
  omega

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl

theorem idle_of (t : Fin cfg0.N) (w : Fin cfg0.W) (hw : cfg0.idle w (grid0.coords t) = !(k0_cond1 (grid0.coords t) == 1#1)) :
    cfg0.idle w (grid0.coords t) = !decide (t.val = 0) := by
  rw [hw]
  by_cases h : t.val = 0
  · rw [(hcond t).mpr h]; simp [h]
  · have h' : ¬ k0_cond1 (grid0.coords t) = 1#1 := fun e => h ((hcond t).mp e)
    rw [beq_eq_false_iff_ne.mpr h']; simp [h]
theorem idle0_4 (t : Fin cfg0.N) : cfg0.idle 4 (grid0.coords t) = !decide (t.val = 0) := idle_of t 4 rfl
theorem idle0_5 (t : Fin cfg0.N) : cfg0.idle 5 (grid0.coords t) = !decide (t.val = 0) := idle_of t 5 rfl

abbrev ms0_0 (t : Fin cfg0.N) : Memref sig .tc .smem S48x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x8x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x8192 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x64x256 .f32 := win0_5.stage (cfg0.slots t 5)
abbrev hs0_5 (t : Fin cfg0.N) : (ms0_5 t).IsWhole := hstage0_5 ((cfg0.slots t 5).cast nbuf0_5)
abbrev scM0_0 : Memref sig .tc .vmem S64x512x128 .f32 := Memref.whole cc0_scratch0
abbrev scM0_1 : Memref sig .tc .vmem S512x128 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The rows of `x`, and the weight scales, as the pipeline finds them. -/
def xArr (c : Dev nD) : S512x8192.Idx → Elt F .bf16 := V m c main_v0
def swArr (c : Dev nD) : S48x64.Idx → Elt F .f32 := V m c main_v1

theorem index0_0 : ∀ t : Fin cfg0.N, win0_0.index t = ![0, 0] := (by decide +kernel : ∀ t : Fin grid0.N, win0_0.index t = ![0, 0])
theorem index0_1 : ∀ t : Fin cfg0.N, win0_1.index t = ![0, 0] := (by decide +kernel : ∀ t : Fin grid0.N, win0_1.index t = ![0, 0])

theorem iblk_0 (c : Dev nD) (t : Fin cfg0.N) : iblk m c 0 t = swArr m c := by
  funext y
  blk_simp [iblk]
  unfold swArr
  refine congrArg (V m c main_v1) ?_
  blk_ext [index0_0]

theorem iblk_1 (c : Dev nD) (t : Fin cfg0.N) : iblk m c 1 t = xArr m c := by
  funext y
  blk_simp [iblk]
  unfold xArr
  refine congrArg (V m c main_v0) ?_
  blk_ext [index0_1]

/-- The output block at a point. -/
def yBlk (c : Dev nD) (t : Fin cfg0.N) : S64x8x512.Idx → Elt F .bf16 :=
  YB (grid0.coords t) (swArr m c) (iblk m c 2 t) (XC (xArr m c)) (SXB (xArr m c))

/-- Between points: before the first, nothing of the scratch buffers is known; after it, the first holds the scales. -/
def PhiS (c : Dev nD) (t : Fin (cfg0.N + 1)) : sProp 𝕄 :=
  if t.val = 0 then Pipeline.ΦA spec0 c
  else iprop(iprop(owns (c : Thread nD τ) scM0_0 fullShare (SXB (xArr m c)) ∗ (∃ d, owns (c : Thread nD τ) scM0_1 fullShare d)) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yBlk m c t
    | ⟨4, _⟩ => XC (xArr m c)
    | ⟨5, _⟩ => XS (xArr m c)
  Φ t := PhiS m c t
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yBlk m c t := by dsimp only [dats]
theorem after0_4 (c : Dev nD) (t : Fin cfg0.N) : (dats m 0 c).after 4 t = XC (xArr m c) := by dsimp only [dats]
theorem after0_5 (c : Dev nD) (t : Fin cfg0.N) : (dats m 0 c).after 5 t = XS (xArr m c) := by dsimp only [dats]

theorem before0_0 (c : Dev nD) (t : Fin cfg0.N) (d) : (dats m 0 c).before 0 t d = swArr m c :=
  (before0_0_of m (dats m 0 c) (A_eq m c 0) (after0_0 m c) t d).trans (iblk_0 m c t)
theorem before0_1 (c : Dev nD) (t : Fin cfg0.N) (d) : (dats m 0 c).before 1 t d = xArr m c :=
  (before0_1_of m (dats m 0 c) (A_eq m c 1) (after0_1 m c) t d).trans (iblk_1 m c t)
theorem before0_2 (c : Dev nD) (t : Fin cfg0.N) (d) : (dats m 0 c).before 2 t d = iblk m c 2 t :=
  before0_2_of m (dats m 0 c) (A_eq m c 2) (after0_2 m c) t d

theorem before4_succ (c : Dev nD) (t : Fin cfg0.N) (ht : t.val ≠ 0) (d) :
    (dats m 0 c).before 4 t d = (dats m 0 c).left 4 ⟨t.val - 1, Nat.lt_of_le_of_lt (Nat.sub_le _ _) t.isLt⟩ d := by
  have ht12 : t.val < 12 := Nat.lt_of_lt_of_eq t.isLt N_0
  rw [(dats m 0 c).before_of_pos 4 t ht rfl d, if_neg]
  intro h
  have := (flush0_4 _).mp h
  simp only at this
  omega
theorem before5_succ (c : Dev nD) (t : Fin cfg0.N) (ht : t.val ≠ 0) (d) :
    (dats m 0 c).before 5 t d = (dats m 0 c).left 5 ⟨t.val - 1, Nat.lt_of_le_of_lt (Nat.sub_le _ _) t.isLt⟩ d := by
  have ht12 : t.val < 12 := Nat.lt_of_lt_of_eq t.isLt N_0
  rw [(dats m 0 c).before_of_pos 5 t ht rfl d, if_neg]
  intro h
  have := (flush0_5 _).mp h
  simp only at this
  omega

/-- After the first point the codes' buffer holds the codes, -/
theorem before0_4 (c : Dev nD) (d) : ∀ n : Nat, ∀ t : Fin cfg0.N, t.val = n + 1 → (dats m 0 c).before 4 t d = XC (xArr m c) := by
  intro n
  induction n with
  | zero =>
    intro t ht
    rw [before4_succ m c t (by omega) d]
    unfold Dat.left
    rw [idle0_4]
    have e : t.val - 1 = 0 := by omega
    simp only [e, decide_true, Bool.not_true]
    exact after0_4 m c _
  | succ n ih =>
    intro t ht
    rw [before4_succ m c t (by omega) d]
    unfold Dat.left
    rw [idle0_4]
    have e : ¬ t.val - 1 = 0 := by omega
    simp only [e, decide_false, Bool.not_false]
    exact ih _ (by simp only; omega)

/-- and the row scales' buffer the row scales. -/
theorem before0_5 (c : Dev nD) (d) : ∀ n : Nat, ∀ t : Fin cfg0.N, t.val = n + 1 → (dats m 0 c).before 5 t d = XS (xArr m c) := by
  intro n
  induction n with
  | zero =>
    intro t ht
    rw [before5_succ m c t (by omega) d]
    unfold Dat.left
    rw [idle0_5]
    have e : t.val - 1 = 0 := by omega
    simp only [e, decide_true, Bool.not_true]
    exact after0_5 m c _
  | succ n ih =>
    intro t ht
    rw [before5_succ m c t (by omega) d]
    unfold Dat.left
    rw [idle0_5]
    have e : ¬ t.val - 1 = 0 := by omega
    simp only [e, decide_false, Bool.not_false]
    exact ih _ (by simp only; omega)

end Cert.KernelIdeal.Hand

end
-- ==== Proof.Body.lean ====
/- The body meets its obligation at every grid point, and the run that follows. -/
module

public import proofs.«01_k».proof.Proof.Triple
public import proofs.«01_k».proof.Proof.Data

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem leaves_0 (c : Dev nD) (t : Fin cfg0.N) :
    (dats m 0 c).leavesExact 0 t = owns (c : Thread nD τ) (ms0_0 t) fullShare (swArr m c) := by
  unfold Dat.leavesExact; rw [live0_0 t, after0_0, iblk_0]
theorem leaves_1 (c : Dev nD) (t : Fin cfg0.N) :
    (dats m 0 c).leavesExact 1 t = owns (c : Thread nD τ) (ms0_1 t) fullShare (xArr m c) := by
  unfold Dat.leavesExact; rw [live0_1 t, after0_1, iblk_1]
theorem leaves_2 (c : Dev nD) (t : Fin cfg0.N) :
    (dats m 0 c).leavesExact 2 t = owns (c : Thread nD τ) (ms0_2 t) fullShare (iblk m c 2 t) := by
  unfold Dat.leavesExact; rw [live0_2 t, after0_2]
theorem leaves_3 (c : Dev nD) (t : Fin cfg0.N) :
    (dats m 0 c).leavesExact 3 t = owns (c : Thread nD τ) (ms0_3 t) fullShare (yBlk m c t) := by
  unfold Dat.leavesExact; rw [live0_3 t, after0_3]
theorem leaves_4_first (c : Dev nD) (t : Fin cfg0.N) (ht : t.val = 0) :
    (dats m 0 c).leavesExact 4 t = owns (c : Thread nD τ) (ms0_4 t) fullShare (XC (xArr m c)) := by
  unfold Dat.leavesExact; rw [idle0_4 t]
  simp only [ht, decide_true, Bool.not_true]
  rw [after0_4]
theorem leaves_4_later (c : Dev nD) (t : Fin cfg0.N) (ht : ¬ t.val = 0) :
    (owns (c : Thread nD τ) (ms0_4 t) fullShare (XC (xArr m c)) : sProp 𝕄) ⊢ (dats m 0 c).leavesExact 4 t := by
  unfold Dat.leavesExact; rw [idle0_4 t]
  simp only [ht, decide_false, Bool.not_false]
  cases (cfg0.win 4).flush t
  · iintro H
    iexists (XC (xArr m c))
    rw [before0_4 m c _ (t.val - 1) t (by omega)]
    iexact H
  · simp only [after0_4]
    iintro H
    iexact H
theorem leaves_5_first (c : Dev nD) (t : Fin cfg0.N) (ht : t.val = 0) :
    (dats m 0 c).leavesExact 5 t = owns (c : Thread nD τ) (ms0_5 t) fullShare (XS (xArr m c)) := by
  unfold Dat.leavesExact; rw [idle0_5 t]
  simp only [ht, decide_true, Bool.not_true]
  rw [after0_5]
theorem leaves_5_later (c : Dev nD) (t : Fin cfg0.N) (ht : ¬ t.val = 0) :
    (owns (c : Thread nD τ) (ms0_5 t) fullShare (XS (xArr m c)) : sProp 𝕄) ⊢ (dats m 0 c).leavesExact 5 t := by
  unfold Dat.leavesExact; rw [idle0_5 t]
  simp only [ht, decide_false, Bool.not_false]
  cases (cfg0.win 5).flush t
  · iintro H
    iexists (XS (xArr m c))
    rw [before0_5 m c _ (t.val - 1) t (by omega)]
    iexact H
  · simp only [after0_5]
    iintro H
    iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem Phi_first (c : Dev nD) (t : Fin cfg0.N) (ht : t.val = 0) : (dats m 0 c).Φ t.castSucc = Pipeline.ΦA spec0 c := by
  show PhiS m c t.castSucc = _
  unfold PhiS
  rw [if_pos (show t.castSucc.val = 0 from ht)]
theorem Phi_later (c : Dev nD) (t : Fin cfg0.N) (ht : ¬ t.val = 0) : (dats m 0 c).Φ t.castSucc
    = iprop(iprop(owns (c : Thread nD τ) scM0_0 fullShare (SXB (xArr m c)) ∗ (∃ d, owns (c : Thread nD τ) scM0_1 fullShare d)) ∗ (∃ r, prngReg c r)) := by
  show PhiS m c t.castSucc = _
  unfold PhiS
  rw [if_neg (show ¬ t.castSucc.val = 0 from ht)]
theorem Phi_succ (c : Dev nD) (t : Fin cfg0.N) : (dats m 0 c).Φ t.succ
    = iprop(iprop(owns (c : Thread nD τ) scM0_0 fullShare (SXB (xArr m c)) ∗ (∃ d, owns (c : Thread nD τ) scM0_1 fullShare d)) ∗ (∃ r, prngReg c r)) := by
  show PhiS m c t.succ = _
  unfold PhiS
  rw [if_neg (by rw [Fin.val_succ]; omega)]

set_option maxHeartbeats 1600000 in
theorem sound_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, leaves_0, leaves_1, leaves_2, leaves_3]
  rw [show (dats m 0 c).owesAt () t.succ = (dats m 0 c).owesAt () t.castSucc from rfl]
  rw [Phi_first m c t h0, Phi_succ, PhiA0_eq, leaves_4_first m c t h0, leaves_5_first m c t h0]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (kernelA c (grid0.coords t) _ _ _ _ _ _ _ _ _ _ _ _ _ _ _ _ ((hcond t).mpr h0) (swArr m c) (xArr m c) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
theorem sound_later (c : Dev nD) (t : Fin cfg0.N) (h0 : ¬ t.val = 0) :
    bodyPre m c t ⊢ wp frame (wpE (defs₀ (F := F)) Variants.none c none) Set.univ (bodyAt0 t) (fun _ => bodyPost m c t) := by
  have b4 : ∀ d, (dats m 0 c).before 4 t d = XC (xArr m c) := fun d => before0_4 m c d (t.val - 1) t (by omega)
  have b5 : ∀ d, (dats m 0 c).before 5 t d = XS (xArr m c) := fun d => before0_5 m c d (t.val - 1) t (by omega)
  unfold bodyPre bodyPost bodyAt0
  simp only [before0_0, before0_1, before0_2, b4, b5, leaves_0, leaves_1, leaves_2, leaves_3]
  rw [show (dats m 0 c).owesAt () t.succ = (dats m 0 c).owesAt () t.castSucc from rfl]
  rw [Phi_later m c t h0, Phi_succ]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (kernelB c (grid0.coords t) _ _ _ _ _ _ _ _ _ _ _ _ _ _ _ _ (fun h => h0 ((hcond t).mp h)) (swArr m c) (xArr m c) (iblk m c 2 t) (XC (xArr m c)) (XS (xArr m c)) (SXB (xArr m c)) Set.univ _)
  isplitl [H0]; · iexact H0
  isplitl [H1]; · iexact H1
  isplitl [H2]; · iexact H2
  isplitl [H3]; · iexists _; iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iapply (leaves_4_later m c t h0); iexact H4
  iapply (leaves_5_later m c t h0); iexact H5

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · exact sound_later m c t h0

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_in (c : Dev nD) : (Pipeline.ΦA spec0 c : sProp 𝕄) ⊢ (dats m 0 c).Φ 0 := by
  show _ ⊢ PhiS m c 0
  unfold PhiS
  rw [if_pos (show (0 : Fin (cfg0.N + 1)).val = 0 from rfl)]
theorem Phi_out (c : Dev nD) : (dats m 0 c).Φ (Fin.last cfg0.N) ⊢ (Pipeline.ΦA spec0 c : sProp 𝕄) := by
  show PhiS m c (Fin.last cfg0.N) ⊢ _
  unfold PhiS
  rw [if_neg (show ¬ (Fin.last cfg0.N).val = 0 from by rw [Fin.val_last]; exact fun h => absurd (N_0.symm.trans h) (by decide)), PhiA0_eq]
  iintro ⟨⟨H0, H1⟩, Hg⟩
  isplitl [H0 H1]
  · isplitl [H0]
    · iexists _; iexact H0
    iexact H1
  iexact Hg

set_option backward.isDefEq.respectTransparency.types false in
set_option maxHeartbeats 800000 in
/-- THE RUN: every array and buffer at its stated contents, every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: the arguments end unchanged, every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.Arrays.lean ====
/- What the three result buffers, and the arrays the body reads, hold: read through the pipeline and the host lines. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.Sem
open Idealize.ShloMosaic.Pipeline (Dat Cfg Window)
open Cert.KernelIdeal.Gen

variable {F : FTy → Type} [FloatOps F]

variable (m : (ℓ : Loc nD τ sig) → Buf (Elt F) ℓ) (ρ : Dev nD → PrngReg)

theorem index0_2 : ∀ t : Fin cfg0.N, win0_2.index t = ![0, t.val] := (by decide +kernel : ∀ t : Fin grid0.N, win0_2.index t = ![0, t.val])
theorem index0_3 : ∀ t : Fin cfg0.N, win0_3.index t = ![0, 0, t.val] := (by decide +kernel : ∀ t : Fin grid0.N, win0_3.index t = ![0, 0, t.val])
theorem index0_4 : ∀ t : Fin cfg0.N, win0_4.index t = ![0, 0] := (by decide +kernel : ∀ t : Fin grid0.N, win0_4.index t = ![0, 0])
theorem index0_5 : ∀ t : Fin cfg0.N, win0_5.index t = ![0, 0, 0] := (by decide +kernel : ∀ t : Fin grid0.N, win0_5.index t = ![0, 0, 0])

/-- The weights' block at a point: 512 columns of the weights. -/
theorem iblk_2 (c : Dev nD) (t : Fin cfg0.N) (r : Fin 8192) (u : Fin 512) (n : Fin 6144) (hn : n.val = 512 * t.val + u.val) :
    iblk m c 2 t (ix2 r u) = m ((c : Thread nD τ).loc main_arg1) (ix2 r n) := by
  blk_simp [iblk]
  rw [V_main_arg1]
  refine congrArg (m ((c : Thread nD τ).loc main_arg1)) ?_
  funext a
  match a with
  | ⟨0, _⟩ => apply Fin.ext; blk_simp [index0_2]
  | ⟨1, _⟩ => apply Fin.ext; blk_simp [index0_2]; show t.val * 512 + u.val = n.val; omega

/-- The grid point a column of the output lies in. -/
def tOf (n : Fin 6144) : Fin cfg0.N := ⟨n.val / 512, Nat.lt_of_lt_of_eq (by omega : n.val / 512 < 12) N_0.symm⟩

/-- The whole output, block by block. -/
def yArr (c : Dev nD) : S64x8x6144.Idx → Elt F .bf16 :=
  fun z => yBlk m c (tOf (z 2)) (ix3 (z 0) (z 1) ⟨(z 2).val % 512, by omega⟩)

theorem final3 (c : Dev nD) : (dats m 0 c).arrAt 3 cfg0.N = yArr m c := by
  refine (dats m 0 c).arrAt_eq_of_covers 3 _ (by decide +kernel) fun t hf y => ?_
  blk_simp
  rw [after0_3]
  have e0 : (((win0_3.blk t).view.emb y) 0).val = (y 0).val := by blk_simp [index0_3]
  have e1 : (((win0_3.blk t).view.emb y) 1).val = (y 1).val := by blk_simp [index0_3]
  have e2 : (((win0_3.blk t).view.emb y) 2).val = t.val * 512 + (y 2).val := by blk_simp [index0_3]
  have h2 : (y 2).val < 512 := (y 2).isLt
  have ht : tOf (((win0_3.blk t).view.emb y) 2) = t := by
    apply Fin.ext; show (((win0_3.blk t).view.emb y) 2).val / 512 = t.val; rw [e2]; omega
  unfold yArr
  rw [ht]
  refine congrArg (yBlk m c t) (funext fun a => ?_)
  match a with
  | ⟨0, _⟩ => exact Fin.ext e0.symm
  | ⟨1, _⟩ => exact Fin.ext e1.symm
  | ⟨2, _⟩ => apply Fin.ext; show (y 2).val = (((win0_3.blk t).view.emb y) 2).val % 512; rw [e2]; omega

theorem final4 (c : Dev nD) : (dats m 0 c).arrAt 4 cfg0.N = XC (xArr m c) := by
  refine (dats m 0 c).arrAt_eq_of_covers 4 _ (by decide +kernel) fun t hf y => ?_
  blk_simp
  rw [after0_4]
  refine congrArg (XC (xArr m c)) ?_
  blk_ext [index0_4]

theorem final5 (c : Dev nD) : (dats m 0 c).arrAt 5 cfg0.N = XS (xArr m c) := by
  refine (dats m 0 c).arrAt_eq_of_covers 5 _ (by decide +kernel) fun t hf y => ?_
  blk_simp
  rw [after0_5]
  refine congrArg (XS (xArr m c)) ?_
  blk_ext [index0_5]

/-- The three results: the output, -/
def resY (c : Dev nD) : S2x256x6144.Idx → Elt F .bf16 := shapeCast S2x256x6144 (yArr m c) shapeCasts_S64x8x6144_S2x256x6144
/-- the codes, -/
def resC (c : Dev nD) : S2x256x8192.Idx → Elt F .fp8e4m3 := shapeCast S2x256x8192 (XC (xArr m c)) shapeCasts_S512x8192_S2x256x8192
/-- the row scales. -/
def resS (c : Dev nD) : S2x256x64.Idx → Elt F .f32 := transpose S2x256x64 [0, 2, 1] (XS (xArr m c)) transposes_S2x64x256_S2x256x64_0_2_1

theorem arr_inj : Function.Injective (Pipeline.arrRef spec0) := launch0.win.arr_inj

theorem tail_v3 (c : Dev nD) : Pipeline.afterTail₀ cfgs (dats m) 0 (V0 m) [hostOps1] c main_v3 = resY m c := by
  unfold Pipeline.afterTail₀
  simp only [hostOps1, List.flatten_cons, List.flatten_nil, List.append_nil, List.cons_append, List.nil_append, StableHlo.after_cons, StableHlo.after_nil]
  rw [StableHlo.unary_result_ne (h := by decide), StableHlo.reshape_result_ne (h := by decide)]
  refine (StableHlo.reshape_result ..).trans ?_
  exact congrArg (fun X => shapeCast S2x256x6144 X shapeCasts_S64x8x6144_S2x256x6144)
    ((Pipeline.withArrays_arr spec0 arr_inj c (V0 m c) _ 3).trans (final3 m c))

theorem tail_v4 (c : Dev nD) : Pipeline.afterTail₀ cfgs (dats m) 0 (V0 m) [hostOps1] c main_v4 = resC m c := by
  unfold Pipeline.afterTail₀
  simp only [hostOps1, List.flatten_cons, List.flatten_nil, List.append_nil, List.cons_append, List.nil_append, StableHlo.after_cons, StableHlo.after_nil]
  rw [StableHlo.unary_result_ne (h := by decide)]
  refine (StableHlo.reshape_result ..).trans ?_
  rw [StableHlo.reshape_result_ne (h := by decide)]
  exact congrArg (fun X => shapeCast S2x256x8192 X shapeCasts_S512x8192_S2x256x8192)
    ((Pipeline.withArrays_arr spec0 arr_inj c (V0 m c) _ 4).trans (final4 m c))

theorem tail_v5 (c : Dev nD) : Pipeline.afterTail₀ cfgs (dats m) 0 (V0 m) [hostOps1] c main_v5 = resS m c := by
  unfold Pipeline.afterTail₀
  simp only [hostOps1, List.flatten_cons, List.flatten_nil, List.append_nil, List.cons_append, List.nil_append, StableHlo.after_cons, StableHlo.after_nil]
  refine (StableHlo.unary_result ..).trans ?_
  rw [StableHlo.reshape_result_ne (h := by decide), StableHlo.reshape_result_ne (h := by decide)]
  exact congrArg (fun X => transpose S2x256x64 [0, 2, 1] X transposes_S2x64x256_S2x256x64_0_2_1)
    ((Pipeline.withArrays_arr spec0 arr_inj c (V0 m c) _ 5).trans (final5 m c))

/-- What the region finds: the rows of `x`, -/
theorem xArr_eq (c : Dev nD) : xArr m c = shapeCast S512x8192 (m ((c : Thread nD τ).loc main_arg0)) shapeCasts_S2x256x8192_S512x8192 := by
  unfold xArr V V0
  simp only [hostOps0, List.flatten_cons, List.flatten_nil, List.append_nil, List.cons_append, List.nil_append, StableHlo.after_cons, StableHlo.after_nil]
  rw [StableHlo.unary_result_ne (h := by decide)]
  exact StableHlo.reshape_result ..

/-- and the weight scales, transposed. -/
theorem swArr_eq (c : Dev nD) : swArr m c = transpose S48x64 [1, 0] (m ((c : Thread nD τ).loc main_arg2)) transposes_S64x48_S48x64_1_0 := by
  unfold swArr V V0
  simp only [hostOps0, List.flatten_cons, List.flatten_nil, List.append_nil, List.cons_append, List.nil_append, StableHlo.after_cons, StableHlo.after_nil]
  refine (StableHlo.unary_result ..).trans ?_
  rw [StableHlo.reshape_result_ne (h := by decide)]

/-- THE RUN: the three results and the arguments. -/
theorem run_results : θ_run defs (onTc (τ := τ) (main (F := F))) ⟨m, fun _ => 0, ρ⟩ (fun r => ∀ c : Dev nD,
      r.2.mem ((c.tc : Thread nD τ).loc main_v3) = resY m c
      ∧ r.2.mem ((c.tc : Thread nD τ).loc main_v4) = resC m c
      ∧ r.2.mem ((c.tc : Thread nD τ).loc main_v5) = resS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h.1 c).2 main_v3 (Pipeline.mem_restRefs_of main_v3 (by decide) (by decide))).trans (tail_v3 m c),
      ((h.1 c).2 main_v4 (Pipeline.mem_restRefs_of main_v4 (by decide) (by decide))).trans (tail_v4 m c),
      ((h.1 c).2 main_v5 (Pipeline.mem_restRefs_of main_v5 (by decide) (by decide))).trans (tail_v5 m c),
      h.2 c⟩) (θ_run_and (run_main m ρ) (unchanged m ρ))

end Cert.KernelIdeal.Hand

end
-- ==== Proof.Expo.lean ====
/- The power-of-two scale of a group, the kernel's way and the problem's.

   The kernel finds the exponent of a positive `z`, at least `2 ^ -127` and below `2 ^ 126`, by counting how many of the powers of
   two `2 ^ -126, 2 ^ -125, …` are at most `z`, and builds `2 ^ e` and `2 ^ -e` by shifting the biased exponent into
   place. The problem's text takes `e = ⌊log₂ z⌋ + 1` and raises two to it. -/
module

public import Idealize.ShloMosaic.PureOps.Ideal
public import Idealize.ShloMosaic.PureOps.Ideal.Laws
public import Mathlib.Analysis.SpecialFunctions.Pow.Real

@[expose] public section

set_option maxRecDepth 16384

noncomputable section

namespace Cert.Expo

open Idealize.ShloMosaic

/-- The pattern whose exponent field is `w`, all else zero. -/
abbrev pat (w : BitVec 32) : BitVec 32 := IntOp.shli ArithUnit.vector w 23#32

/-- What that pattern denotes. -/
abbrev powOf (w : BitVec 32) : EReal := Ideal.ofBits .f32 (pat w)

theorem pat_fields : ∀ l : Fin 256,
    ((pat (BitVec.ofNat 32 l.val)).extractLsb' (8 + 23) 1 == 1#1) = false
      ∧ ((pat (BitVec.ofNat 32 l.val)).extractLsb' 23 8).toNat = l.val
      ∧ ((pat (BitVec.ofNat 32 l.val)).extractLsb' 0 23).toNat = 0 := by decide +kernel

/-- In the normal range it is a power of two. -/
theorem powOf_mid (l : Fin 256) (h0 : 0 < l.val) (h1 : l.val < 255) :
    powOf (BitVec.ofNat 32 l.val) = (((2 : ℝ) ^ ((l.val : ℤ) - 127) : ℝ) : EReal) := by
  obtain ⟨a, b, c⟩ := pat_fields l
  show Ideal.ieee 8 23 (pat (BitVec.ofNat 32 l.val)) = _
  unfold Ideal.ieee
  simp only [a, b, c]
  rw [if_neg (by omega), if_neg (by omega)]
  refine congrArg (fun r : ℝ => (r : EReal)) ?_
  have e : ((l.val : ℤ) - 127) = 23 + ((l.val : ℤ) - (2 ^ (8 - 1) - 1) - (23 : ℕ)) := by norm_num
  rw [e, zpow_add₀ (by norm_num : (2 : ℝ) ≠ 0)]
  norm_num

/-- At the top it is infinite. -/
theorem powOf_top : powOf 255#32 = ⊤ := by
  obtain ⟨a, b, c⟩ := pat_fields 255
  show Ideal.ieee 8 23 (pat (BitVec.ofNat 32 (255 : Fin 256).val)) = _
  unfold Ideal.ieee
  simp only [a, b, c]
  rw [if_pos (by decide)]
  simp

/-- The number of lanes whose power of two is at most `z`, counted in words. -/
def count (z : EReal) : BitVec 32 :=
  Finset.fold IntOp.addi 0#32 (fun x : Fin 256 => Scalar.select
    (IntOp.ori (IntOp.cmpi CmpIPredicate.eq (BitVec.ofNat 32 x.val) 0#32)
      (BitVec.ofBool (decide (z < powOf (BitVec.ofNat 32 x.val))))) 0#32 1#32) Finset.univ

/-- The kernel's exponent. -/
def kexp (z : EReal) : BitVec 32 := if z = 0 then 0#32 else IntOp.subi (count z) 126#32

/-- The problem's exponent, of the bound `a` and the scaled bound `z`. -/
def rexp (a z : EReal) : EReal :=
  if a = 0 then 0 else Ideal.liftRound Int.floor (Ideal.div (Ideal.log z) ((Real.log 2 : ℝ) : EReal)) + 1

theorem fold_card : ∀ N : Fin 256,
    Finset.fold IntOp.addi 0#32 (fun x : Fin 256 => if 1 ≤ x.val ∧ x.val ≤ N.val then 1#32 else 0#32) Finset.univ
      = BitVec.ofNat 32 N.val := by decide +kernel

theorem sel_true (w : BitVec 32) (b : Bool) (p : Prop) [Decidable p] (h : p ↔ (w ≠ 0#32 ∧ b = false)) :
    Scalar.select (IntOp.ori (IntOp.cmpi CmpIPredicate.eq w 0#32) (BitVec.ofBool b)) 0#32 1#32
      = if p then 1#32 else 0#32 := by
  by_cases hw : w = 0#32
  · subst hw
    rw [if_neg (by rw [h]; simp)]
    cases b <;> rfl
  · have hc : IntOp.cmpi CmpIPredicate.eq w 0#32 = 0#1 := by
      show BitVec.ofBool (w == 0#32) = 0#1
      rw [beq_eq_false_iff_ne.mpr hw]
      rfl
    rw [hc]
    cases b
    · rw [if_pos (by rw [h]; exact ⟨hw, rfl⟩)]; rfl
    · rw [if_neg (by rw [h]; simp)]; rfl

theorem ofNat_ne (x : Fin 256) (h : x.val ≠ 0) : BitVec.ofNat 32 x.val ≠ 0#32 := by
  revert h; revert x; decide +kernel

/-- The exponent of a positive number: `2 ^ m ≤ z` exactly when `m` is at most it. -/
theorem le_flog (z : ℝ) (hz : 0 < z) (m : ℤ) : m ≤ ⌊Real.log z / Real.log 2⌋ ↔ (2 : ℝ) ^ m ≤ z := by
  have hl : 0 < Real.log 2 := Real.log_pos (by norm_num)
  rw [Int.le_floor, le_div_iff₀ hl, ← Real.log_zpow, Real.log_le_log_iff (by positivity) hz]

/-- The count is the biased exponent. -/
theorem count_eq (z : ℝ) (n : ℤ) (hz : 0 < z) (hn : n = ⌊Real.log z / Real.log 2⌋) (h0 : -127 ≤ n) (h1 : n ≤ 125) :
    count (z : EReal) = BitVec.ofNat 32 (n + 127).toNat := by
  have hN : (n + 127).toNat < 256 := by omega
  rw [← fold_card ⟨(n + 127).toNat, hN⟩]
  unfold count
  congr 1
  funext x
  refine sel_true _ _ _ ?_
  show (1 ≤ x.val ∧ x.val ≤ (n + 127).toNat) ↔ _
  by_cases hx0 : x.val = 0
  · simp [hx0]
  have hx := ofNat_ne x hx0
  by_cases hx1 : x.val = 255
  · have e : BitVec.ofNat 32 x.val = 255#32 := by rw [hx1]
    rw [e, powOf_top]
    have : (z : EReal) < ⊤ := EReal.coe_lt_top z
    simp only [this, decide_true]
    constructor
    · intro h; omega
    · intro h; exact absurd h.2 (by simp)
  · have hxl := x.isLt
    rw [powOf_mid x (by omega) (by omega)]
    have key : ((2 : ℝ) ^ ((x.val : ℤ) - 127) ≤ z) ↔ ((x.val : ℤ) - 127 ≤ n) := by
      rw [hn, le_flog z hz]
    constructor
    · intro h
      refine ⟨hx, decide_eq_false ?_⟩
      rw [EReal.coe_lt_coe_iff, not_lt, key]
      omega
    · intro h
      have h2 := of_decide_eq_false h.2
      rw [EReal.coe_lt_coe_iff, not_lt, key] at h2
      omega

theorem up_fields : ∀ N : Fin 256, IntOp.addi (IntOp.subi (BitVec.ofNat 32 N.val) 126#32) 127#32 = BitVec.ofNat 32 (N.val + 1) := by
  decide +kernel
theorem dn_fields : ∀ N : Fin 254, IntOp.subi 127#32 (IntOp.subi (BitVec.ofNat 32 N.val) 126#32) = BitVec.ofNat 32 (253 - N.val) := by
  decide +kernel

theorem bits_c : Ideal.ofBits .f32 0x3B124925#32 = (((9586981 : ℝ) * 2 ^ (-32 : ℤ) : ℝ) : EReal) := by
  show Ideal.ieee 8 23 (0x3B124925#32 : BitVec 32) = _
  unfold Ideal.ieee
  have a : ((0x3B124925#32 : BitVec 32).extractLsb' (8 + 23) 1 == 1#1) = false := by decide
  have b : ((0x3B124925#32 : BitVec 32).extractLsb' 23 8).toNat = 118 := by decide
  have c : ((0x3B124925#32 : BitVec 32).extractLsb' 0 23).toNat = 1198373 := by decide
  simp only [a, b, c]
  rw [if_neg (by decide), if_neg (by decide)]
  congr 1
  norm_num

theorem bits_hi : Ideal.ofBits .f32 0x7E800000#32 = (((2 : ℝ) ^ (126 : ℤ) : ℝ) : EReal) := by
  have := powOf_mid 253 (by decide) (by decide)
  exact this.trans (by norm_num)

theorem bits_lo : Ideal.ofBits .f32 0x00400000#32 = (((2 : ℝ) ^ (-127 : ℤ) : ℝ) : EReal) := by
  show Ideal.ieee 8 23 (0x00400000#32 : BitVec 32) = _
  unfold Ideal.ieee
  have a : ((0x00400000#32 : BitVec 32).extractLsb' (8 + 23) 1 == 1#1) = false := by decide
  have b : ((0x00400000#32 : BitVec 32).extractLsb' 23 8).toNat = 0 := by decide
  have c : ((0x00400000#32 : BitVec 32).extractLsb' 0 23).toNat = 4194304 := by decide
  simp only [a, b, c]
  rw [if_neg (by decide), if_pos (by decide)]
  congr 1
  norm_num

/-- THE SCALE. For a group whose largest magnitude is `a` and whose scaled bound is zero or in `2 ^ -127 .. 2 ^ 126`, the
    kernel's `2 ^ e` and `2 ^ -e` are the problem's. -/
theorem scale_eq (a : EReal) (ha : 0 ≤ a)
    (hz : a * Ideal.ofBits .f32 0x3B124925#32 = 0 ∨ Ideal.ofBits .f32 0x00400000#32 ≤ a * Ideal.ofBits .f32 0x3B124925#32
      ∧ a * Ideal.ofBits .f32 0x3B124925#32 < Ideal.ofBits .f32 0x7E800000#32) :
    powOf (IntOp.addi (kexp (a * Ideal.ofBits .f32 0x3B124925#32)) 127#32)
        = Ideal.exp2 (rexp a (a * Ideal.ofBits .f32 0x3B124925#32))
      ∧ powOf (IntOp.subi 127#32 (kexp (a * Ideal.ofBits .f32 0x3B124925#32)))
        = Ideal.exp2 (0 - rexp a (a * Ideal.ofBits .f32 0x3B124925#32)) := by
  rw [bits_c, bits_lo, bits_hi] at hz
  rw [bits_c]
  induction a using EReal.rec with
  | bot => exact absurd ha (by simp)
  | top =>
    rw [EReal.top_mul_coe_of_pos (by positivity)] at hz
    rcases hz with h | h
    · exact absurd h (by simp)
    · exact absurd h.2 (by simp)
  | coe a =>
    rw [← EReal.coe_zero, EReal.coe_le_coe_iff] at ha
    rw [← EReal.coe_mul] at hz ⊢
    rw [← EReal.coe_zero, EReal.coe_eq_coe_iff, EReal.coe_le_coe_iff, EReal.coe_lt_coe_iff] at hz
    set z : ℝ := a * (9586981 * 2 ^ (-32 : ℤ)) with hzdef
    by_cases hz0 : z = 0
    · have ha0 : a = 0 := by
        have hc : (9586981 * 2 ^ (-32 : ℤ) : ℝ) ≠ 0 := by positivity
        exact (mul_eq_zero.mp (hzdef ▸ hz0)).resolve_right hc
      have e1 : kexp ((z : ℝ) : EReal) = 0#32 := by unfold kexp; rw [if_pos (by rw [hz0]; rfl)]
      have e2 : rexp ((a : ℝ) : EReal) ((z : ℝ) : EReal) = ((0 : ℝ) : EReal) := by unfold rexp; rw [if_pos (by rw [ha0]; rfl)]; rfl
      rw [e1, e2]
      have p := powOf_mid 127 (by decide) (by decide)
      have e3 : powOf 127#32 = ((1 : ℝ) : EReal) := p.trans (by norm_num)
      refine ⟨(show powOf 127#32 = _ from e3).trans ?_, (show powOf 127#32 = _ from e3).trans ?_⟩
      · rw [Ideal.exp2_coe]; norm_num
      · rw [← EReal.coe_zero, ← EReal.coe_sub, Ideal.exp2_coe]; norm_num
    · have hz' := hz.resolve_left hz0
      have hzp : 0 < z := lt_of_lt_of_le (by positivity) hz'.1
      have ha0 : a ≠ 0 := by rintro rfl; exact hz0 (by rw [hzdef]; ring)
      set n : ℤ := ⌊Real.log z / Real.log 2⌋ with hn
      have h0 : -127 ≤ n := by
        rw [hn, le_flog z hzp]
        exact hz'.1
      have h1 : n ≤ 125 := by
        have : n < 126 := by
          rw [← not_le, hn, le_flog z hzp, not_le]
          exact hz'.2
        omega
      have hN : (n + 127).toNat < 256 := by omega
      have e1 : kexp ((z : ℝ) : EReal) = IntOp.subi (BitVec.ofNat 32 (n + 127).toNat) 126#32 := by
        unfold kexp
        rw [if_neg (fun h => hz0 (EReal.coe_eq_coe_iff.mp (h.trans EReal.coe_zero.symm))), count_eq z n hzp hn h0 h1]
      have e2 : rexp ((a : ℝ) : EReal) ((z : ℝ) : EReal) = (((n + 1 : ℤ) : ℝ) : EReal) := by
        unfold rexp
        rw [if_neg (fun h => ha0 (EReal.coe_eq_coe_iff.mp (h.trans EReal.coe_zero.symm))), Ideal.log_coe,
          if_neg (not_le.mpr hzp)]
        have hl : Real.log 2 ≠ 0 := (Real.log_pos (by norm_num)).ne'
        have hd : Ideal.div ((Real.log z : ℝ) : EReal) ((Real.log 2 : ℝ) : EReal) = ((Real.log z / Real.log 2 : ℝ) : EReal) := by
          unfold Ideal.div
          rw [if_neg (fun h => hl (EReal.coe_eq_coe_iff.mp (h.trans EReal.coe_zero.symm))), ← EReal.coe_inv, ← EReal.coe_mul]
          rfl
        rw [hd, Ideal.liftRound_coe, ← hn]
        push_cast
        rfl
      rw [e1, e2]
      constructor
      · have := up_fields ⟨(n + 127).toNat, hN⟩
        rw [this, Ideal.exp2_coe]
        have p := powOf_mid ⟨(n + 127).toNat + 1, by omega⟩ (by show 0 < (n + 127).toNat + 1; omega) (by show (n + 127).toNat + 1 < 255; omega)
        refine p.trans ?_
        congr 1
        show (2 : ℝ) ^ ((((n + 127).toNat + 1 : ℕ) : ℤ) - 127) = (2 : ℝ) ^ (((n + 1 : ℤ)) : ℝ)
        rw [Real.rpow_intCast]
        congr 1
        omega
      · have := dn_fields ⟨(n + 127).toNat, by omega⟩
        rw [this, ← EReal.coe_zero, ← EReal.coe_sub, Ideal.exp2_coe]
        have p := powOf_mid ⟨253 - (n + 127).toNat, by omega⟩ (by show 0 < 253 - (n + 127).toNat; omega) (by show 253 - (n + 127).toNat < 255; omega)
        refine p.trans ?_
        congr 1
        show (2 : ℝ) ^ (((253 - (n + 127).toNat : ℕ) : ℤ) - 127) = (2 : ℝ) ^ (0 - ((n + 1 : ℤ) : ℝ))
        rw [show (0 - ((n + 1 : ℤ) : ℝ)) = ((-(n + 1) : ℤ) : ℝ) by push_cast; ring, Real.rpow_intCast]
        congr 1
        omega

end Cert.Expo

end
-- ==== Proof.Spec.lean ====
/- The quantiser of one row of a group over the reals, by the kernel's arithmetic and by the reference's, and that they agree. -/
module

public import proofs.«01_k».proof.Proof.Expo

@[expose] public section

noncomputable section

namespace Cert.Expo

open Idealize.ShloMosaic

/-- The largest magnitude of 128 numbers, from minus infinity. -/
def amax (f : Fin 128 → EReal) : EReal :=
  Finset.fold max (Ideal.ofBits .f32 0xFF800000#32) (fun x => FloatOps.absf (F := Ideal) (φ := .f32) (f x)) Finset.univ

/-- One 448th, as a 32-bit pattern. -/
abbrev cc : EReal := Ideal.ofBits .f32 0x3B124925#32

/-- The scale and the codes of a row, by the kernel's arithmetic on bit patterns, -/
def kscale (f : Fin 128 → EReal) : EReal := powOf (IntOp.addi (kexp (amax f * cc)) 127#32)
def kcode (f : Fin 128 → EReal) (k : Fin 128) : EReal :=
  min (Ideal.ofBits .f32 0x43E00000#32) (max (Ideal.ofBits .f32 0xC3E00000#32) (f k * powOf (IntOp.subi 127#32 (kexp (amax f * cc)))))

/-- and by the reference's logarithm and powers of two. -/
def rscale (f : Fin 128 → EReal) : EReal := Ideal.exp2 (rexp (amax f) (amax f * cc))
def rcode (f : Fin 128 → EReal) (k : Fin 128) : EReal :=
  min (Ideal.ofBits .f32 0x43E00000#32) (max (Ideal.ofBits .f32 0xC3E00000#32) (f k * Ideal.exp2 (0 - rexp (amax f) (amax f * cc))))

/-- The rows both quantise alike: the largest magnitude over 448 is zero, or at least `2 ^ -127` and below `2 ^ 126`. -/
def Good (f : Fin 128 → EReal) : Prop :=
  amax f * cc = 0 ∨ Ideal.ofBits .f32 0x00400000#32 ≤ amax f * cc ∧ amax f * cc < Ideal.ofBits .f32 0x7E800000#32

theorem absf_nonneg (x : EReal) : 0 ≤ FloatOps.absf (F := Ideal) (φ := .f32) x := by
  show 0 ≤ max x (-x)
  rcases le_total 0 x with h | h
  · exact le_max_of_le_left h
  · exact le_max_of_le_right (by simpa using EReal.neg_le_neg_iff.mpr h)

theorem amax_nonneg (f : Fin 128 → EReal) : 0 ≤ amax f := by
  unfold amax
  rw [Finset.le_fold_max]
  exact Or.inr ⟨0, Finset.mem_univ _, absf_nonneg _⟩

theorem scale_agree (f : Fin 128 → EReal) (h : Good f) : kscale f = rscale f :=
  (scale_eq (amax f) (amax_nonneg f) h).1

theorem code_agree (f : Fin 128 → EReal) (h : Good f) (k : Fin 128) : kcode f k = rcode f k := by
  unfold kcode rcode
  rw [(scale_eq (amax f) (amax_nonneg f) h).2]

end Cert.Expo

end
-- ==== Proof.ReadQ.lean ====
/- The kernel's codes and row scales over the reals: each row of a group by the group's largest magnitude. -/
module

public import proofs.«01_k».proof.Proof.Loop
public import proofs.«01_k».proof.Proof.Spec
public import Idealize.ShloMosaic.Lib.Pointwise

@[expose] public section

set_option maxRecDepth 16384

noncomputable section

namespace Cert.KernelIdeal.Hand

open Idealize.ShloMosaic Idealize.ShloMosaic.Pointwise
open Cert.KernelIdeal Cert.KernelIdeal.Gen Cert.Expo

/-- A row of one group of `x`. -/
def row (x : S512x8192.Idx → EReal) (r : Fin 512) (g : Fin 64) : Fin 128 → EReal :=
  fun k => x (ix2 r ⟨128 * g.val + k.val, by omega⟩)

theorem k_exp (v : Vec Ideal S512x128 .bf16) (r : Fin 512) (u : Fin 1) :
    k0_pay2 (F := Ideal) v (ix2 r u) = kexp (amax (fun k => v (ix2 r k)) * cc) := by
  pointwise [k0_pay2, k0_pay1]
  rfl

theorem k_scale (v : Vec Ideal S512x128 .bf16) (r : Fin 512) (u : Fin 1) :
    k0_pay3 (F := Ideal) v (ix2 r u) = powOf (IntOp.addi (kexp (amax (fun k => v (ix2 r k)) * cc)) 127#32) := by
  rw [← k_exp v r u]
  pointwise [k0_pay3]

theorem k_code (v : Vec Ideal S512x128 .bf16) (r : Fin 512) (u : Fin 128) :
    k0_pay6 (F := Ideal) (k0_pay4 v) (ix2 r u)
      = min (Ideal.ofBits .f32 0x43E00000#32) (max (Ideal.ofBits .f32 0xC3E00000#32)
          (v (ix2 r u) * powOf (IntOp.subi 127#32 (kexp (amax (fun k => v (ix2 r k)) * cc))))) := by
  rw [← k_exp v r 0]
  pointwise [k0_pay6, k0_pay4, k0_pay1]

theorem k_wide (v : FVec Ideal S512x1 .f32) (r : Fin 512) (u : Fin 128) : k0_pay7 (F := Ideal) v (ix3 0 r u) = v (ix2 r 0) := by
  pointwise [k0_pay7]

theorem k_col (w : BitVec 32) (v : FVec Ideal S512x1 .f32) (T : Vec Ideal S512x128 .f32) (r : Fin 512) (u : Fin 128) :
    k0_pay8 (F := Ideal) w v T (ix2 r u) = Scalar.select (IntOp.cmpi CmpIPredicate.eq (BitVec.ofNat 32 u.val) w) (v (ix2 r 0)) (T (ix2 r u)) := by
  pointwise [k0_pay8]

theorem k_lo (T : Vec Ideal S512x128 .f32) (g : Fin 64) (s : Fin 256) :
    k0_pay10 (F := Ideal) T (ix3 0 g s) = T (ix2 ⟨s.val, by omega⟩ ⟨g.val, by omega⟩) := by
  pointwise [k0_pay10, k0_pay9]

theorem k_hi (T : Vec Ideal S512x128 .f32) (g : Fin 64) (s : Fin 256) :
    k0_pay11 (F := Ideal) T (ix3 0 g s) = T (ix2 ⟨256 + s.val, by omega⟩ ⟨g.val, by omega⟩) := by
  pointwise [k0_pay11, k0_pay9]

/-- A row of a group, either way round. -/
theorem grp_row (x : S512x8192.Idx → EReal) (r : Fin 512) (g : Fin 64) :
    (fun k : Fin 128 => grp (F := Ideal) x g (ix2 r k)) = row x r g := by
  funext k
  rfl

theorem XC_read (x : S512x8192.Idx → EReal) (r : Fin 512) (n : Fin 8192) :
    XC (F := Ideal) x (ix2 r n) = kcode (row x r (gOf n)) (kOf n) := by
  unfold XC kcode
  refine (k_code (grp (F := Ideal) x (gOf n)) r (kOf n)).trans ?_
  rw [grp_row]
  rfl

theorem SXB_read (x : S512x8192.Idx → EReal) (g : Fin 64) (r : Fin 512) (u : Fin 128) :
    SXB (F := Ideal) x (ix3 g r u) = kscale (row x r g) := by
  unfold SXB kscale
  refine (k_wide (k0_pay3 (grp (F := Ideal) x g)) r u).trans ?_
  rw [k_scale, grp_row]

theorem iv_ne : ∀ k u : Fin 128, BitVec.ofNat 32 u.val = Scf.iv 0#32 1#32 k.val ↔ u = k := by decide +kernel

theorem sel_iv (k u : Fin 128) (a b : EReal) :
    Scalar.select (IntOp.cmpi CmpIPredicate.eq (BitVec.ofNat 32 u.val) (Scf.iv 0#32 1#32 k.val)) a b = if u = k then a else b := by
  by_cases h : u = k
  · rw [if_pos h]
    have e := (iv_ne k u).mpr h
    rw [e]
    simp [Scalar.select, IntOp.cmpi]
  · rw [if_neg h]
    have e : ¬ BitVec.ofNat 32 u.val = Scf.iv 0#32 1#32 k.val := fun e => h ((iv_ne k u).mp e)
    have e' := beq_eq_false_iff_ne.mpr e
    simp [Scalar.select, IntOp.cmpi, e']

/-- The table, column by column. -/
theorem tab_read (x : S512x8192.Idx → EReal) (r : Fin 512) (g : Fin 64) : ∀ n : Nat, n ≤ 64 → g.val < n →
    tab (F := Ideal) x n (ix2 r ⟨g.val, by omega⟩) = kscale (row x r g) := by
  intro n
  induction n with
  | zero => intro _ h; omega
  | succ n ih =>
    intro hn hg
    have hlt : n < 64 := by omega
    show (if h : n < 64 then k0_pay8 (F := Ideal) (Scf.iv 0#32 1#32 n) (k0_pay3 (grp (F := Ideal) x ⟨n, h⟩)) (tab (F := Ideal) x n) else tab (F := Ideal) x n) _ = _
    rw [dif_pos hlt, k_col]
    refine (sel_iv ⟨n, by omega⟩ ⟨g.val, by omega⟩ _ _).trans ?_
    by_cases h : g.val = n
    · rw [if_pos (Fin.ext h), k_scale, grp_row]
      have : (⟨n, hlt⟩ : Fin 64) = g := Fin.ext h.symm
      rw [this]
      rfl
    · rw [if_neg (fun e => h (Fin.mk.inj e))]
      exact ih (by omega) (by omega)

end Cert.KernelIdeal.Hand

end
-- ==== Proof.ReadY.lean ====
/- The kernel's output block over the reals: a sum over the groups of product, row scale and weight scale. -/
module

public import proofs.«01_k».proof.Proof.Outs
public import Idealize.ShloMosaic.Lib.Pointwise
public import Idealize.ShloMosaic.Lib.Ring

@[expose] public section

set_option maxRecDepth 16384

noncomputable section

namespace Cert.KernelIdeal.Hand

open Idealize.ShloMosaic Idealize.ShloMosaic.Pointwise
open Cert.KernelIdeal Cert.KernelIdeal.Gen

/-- Reading the left half of a product's columns, -/
theorem step0_read (acc : FVec Ideal S128x128 .f32) (c : Vec Ideal S128x128 .fp8e4m3) (w : Vec Ideal S128x256 .fp8e4m3)
    (s : Vec Ideal S1x128x128 .f32) (sw : Elt Ideal .f32) (r u : Fin 128) :
    step (F := Ideal) sl0 acc c w s sw (ix2 r u)
      = acc (ix2 r u) + (∑ x : Fin 128, c (ix2 r x) * w (ix2 x ⟨u.val, by omega⟩)) * s (ix3 0 r u) * sw := by
  pointwise [step, sl0]

/-- and the right half. -/
theorem step1_read (acc : FVec Ideal S128x128 .f32) (c : Vec Ideal S128x128 .fp8e4m3) (w : Vec Ideal S128x256 .fp8e4m3)
    (s : Vec Ideal S1x128x128 .f32) (sw : Elt Ideal .f32) (r u : Fin 128) :
    step (F := Ideal) sl1 acc c w s sw (ix2 r u)
      = acc (ix2 r u) + (∑ x : Fin 128, c (ix2 r x) * w (ix2 x ⟨128 + u.val, by omega⟩)) * s (ix3 0 r u) * sw := by
  pointwise [step, sl1]

theorem zero_read (r u : Fin 128) : (broadcast S128x128 (Scalar.ofBits (F := Ideal) .f32 0x00000000#32) : FVec Ideal S128x128 .f32) (ix2 r u) = 0 := by
  show Ideal.ofBits .f32 0#32 = 0
  simp

/-- The accumulator, as a sum over the groups so far. -/
theorem acc0_read (c : ∀ g, g < 64 → Vec Ideal S128x128 .fp8e4m3) (w : ∀ g, g < 64 → Vec Ideal S128x256 .fp8e4m3)
    (s : ∀ g, g < 64 → Vec Ideal S1x128x128 .f32) (sw : ∀ g, g < 64 → Elt Ideal .f32) (r u : Fin 128) : ∀ (g : Nat) (h : g ≤ 64),
    tileAcc (F := Ideal) sl0 c w s sw g h (ix2 r u)
      = ∑ k : Fin g, (∑ x : Fin 128, c k.val (by omega) (ix2 r x) * w k.val (by omega) (ix2 x ⟨u.val, by omega⟩))
          * s k.val (by omega) (ix3 0 r u) * sw k.val (by omega) := by
  intro g
  induction g with
  | zero => intro h; rw [Fin.sum_univ_zero]; exact zero_read r u
  | succ g ih =>
    intro h
    rw [Fin.sum_univ_castSucc]
    refine (step0_read _ _ _ _ _ r u).trans ?_
    rw [ih]
    rfl

theorem acc1_read (c : ∀ g, g < 64 → Vec Ideal S128x128 .fp8e4m3) (w : ∀ g, g < 64 → Vec Ideal S128x256 .fp8e4m3)
    (s : ∀ g, g < 64 → Vec Ideal S1x128x128 .f32) (sw : ∀ g, g < 64 → Elt Ideal .f32) (r u : Fin 128) : ∀ (g : Nat) (h : g ≤ 64),
    tileAcc (F := Ideal) sl1 c w s sw g h (ix2 r u)
      = ∑ k : Fin g, (∑ x : Fin 128, c k.val (by omega) (ix2 r x) * w k.val (by omega) (ix2 x ⟨128 + u.val, by omega⟩))
          * s k.val (by omega) (ix3 0 r u) * sw k.val (by omega) := by
  intro g
  induction g with
  | zero => intro h; rw [Fin.sum_univ_zero]; exact zero_read r u
  | succ g ih =>
    intro h
    rw [Fin.sum_univ_castSucc]
    refine (step1_read _ _ _ _ _ r u).trans ?_
    rw [ih]
    rfl

/-- A tile's rows are cut in eights. -/
theorem cut_read (v : FVec Ideal S128x128 .f32) (a : Fin 16) (b : Fin 8) (u : Fin 128) :
    (shapeCast S16x8x128 (truncf .bf16 v bitsLt_bf16_f32) shapeCasts_S128x128_S16x8x128 : FVec Ideal S16x8x128 .bf16) (ix3 a b u)
      = v (ix2 ⟨8 * a.val + b.val, by omega⟩ u) := by
  pointwise []
  have e : a.val * 8 = 8 * a.val := Nat.mul_comm _ _
  simp only [e]

theorem soff_val : ∀ (i : Fin 12) (n b : Fin 2),
    (Scalar.indexCast (Scalar.addi (Scalar.addi (Scalar.muli (BitVec.ofNat 32 i.val) 4#32) (BitVec.ofNat 32 (2 * n.val))) (BitVec.ofNat 32 b.val))).toNat
      = 4 * i.val + 2 * n.val + b.val := by decide +kernel

/-- The output block at an index: the sum over the groups. -/
def ysum (i : grid0.Coords) (R1 : S48x64.Idx → EReal) (R3 : S8192x512.Idx → EReal) (R5 : S512x8192.Idx → EReal)
    (R7 : S64x512x128.Idx → EReal) (a : Fin 64) (b : Fin 8) (u : Fin 512) : EReal :=
  ∑ g : Fin 64, (∑ x : Fin 128, R5 (ix2 ⟨8 * a.val + b.val, by omega⟩ ⟨128 * g.val + x.val, by omega⟩) * R3 (ix2 ⟨128 * g.val + x.val, by omega⟩ u))
    * R7 (ix3 g ⟨8 * a.val + b.val, by omega⟩ ⟨u.val % 128, by omega⟩)
    * R1 (ix2 ⟨4 * (i 0).val + u.val / 128, by have : (i 0).val < 12 := (i 0).isLt; omega⟩ g)

theorem ld2 {α : Type} {A B a b : Nat} (R : (⟨2, ![A, B]⟩ : Shape).Idx → α) (o p : Nat) (inb) (r : Fin a) (x : Fin b) (h1 : o + r.val < A) (h2 : p + x.val < B) :
    R ((Rect.unit (s := (⟨2, ![A, B]⟩ : Shape)) ![o, p] ![a, b] inb).emb (ix2 r x)) = R (ix2 ⟨o + r.val, h1⟩ ⟨p + x.val, h2⟩) := by
  refine congrArg R (funext fun d => ?_)
  match d with
  | ⟨0, _⟩ => apply Fin.ext; show o + 1 * r.val = o + r.val; omega
  | ⟨1, _⟩ => apply Fin.ext; show p + 1 * x.val = p + x.val; omega

theorem ld3 {α : Type} {A B C a b c : Nat} (R : (⟨3, ![A, B, C]⟩ : Shape).Idx → α) (o p q : Nat) (inb) (r : Fin a) (x : Fin b) (y : Fin c)
    (h1 : o + r.val < A) (h2 : p + x.val < B) (h3 : q + y.val < C) :
    R ((Rect.unit (s := (⟨3, ![A, B, C]⟩ : Shape)) ![o, p, q] ![a, b, c] inb).emb (ix3 r x y)) = R (ix3 ⟨o + r.val, h1⟩ ⟨p + x.val, h2⟩ ⟨q + y.val, h3⟩) := by
  refine congrArg R (funext fun d => ?_)
  match d with
  | ⟨0, _⟩ => apply Fin.ext; show o + 1 * r.val = o + r.val; omega
  | ⟨1, _⟩ => apply Fin.ext; show p + 1 * x.val = p + x.val; omega
  | ⟨2, _⟩ => apply Fin.ext; show q + 1 * y.val = q + y.val; omega

theorem ld_sw (R1 : S48x64.Idx → EReal) (i : grid0.Coords) (g : Nat) (hg : g < 64) (n b : Fin 2) (h) :
    View.ld (Val := Elt Ideal) (e' := .f32) R1 (Rect.unit (s := S48x64) (soff g i (BitVec.ofNat 32 (2 * n.val)) (BitVec.ofNat 32 b.val)) S1x1.size (soff_inb g hg i n b)) (Shape.Idx.first h)
      = R1 (ix2 ⟨4 * (i 0).val + 2 * n.val + b.val, by have : (i 0).val < 12 := (i 0).isLt; omega⟩ ⟨g, hg⟩) := by
  refine congrArg R1 (funext fun d => ?_)
  match d with
  | ⟨0, _⟩ =>
    apply Fin.ext
    show soff g i (BitVec.ofNat 32 (2 * n.val)) (BitVec.ofNat 32 b.val) 0 + 1 * 0 = _
    exact (Nat.add_zero _).trans (soff_val (i 0) n b)
  | ⟨1, _⟩ => apply Fin.ext; show g + 1 * 0 = g; omega

/-- A tile of the left half is the block of the sum at its place. -/
theorem tile0 (i : grid0.Coords) (R1 : S48x64.Idx → EReal) (R3 : S8192x512.Idx → EReal) (R5 : S512x8192.Idx → EReal)
    (R7 : S64x512x128.Idx → EReal) (m : Fin 4) (n : Fin 2) (o p : Nat) (ho : o = 16 * m.val) (hp : p = 256 * n.val + 0) (inb)
    (y : S16x8x128.Idx) :
    outTile (F := Ideal) i R1 R3 R5 R7 sl0 m n 0 y
      = (fun z : S64x8x512.Idx => ysum i R1 R3 R5 R7 (z 0) (z 1) (z 2)) ((Rect.unit (s := S64x8x512) ![o, 0, p] S16x8x128.size inb).emb y) := by
  obtain ⟨a, ha⟩ : ∃ a : Fin 16, a = y 0 := ⟨_, rfl⟩
  obtain ⟨b, hb⟩ : ∃ b : Fin 8, b = y 1 := ⟨_, rfl⟩
  obtain ⟨u, hu⟩ : ∃ u : Fin 128, u = y 2 := ⟨_, rfl⟩
  have hy : y = ix3 a b u := by
    funext d
    match d with
    | ⟨0, _⟩ => exact ha.symm
    | ⟨1, _⟩ => exact hb.symm
    | ⟨2, _⟩ => exact hu.symm
  have hm := m.isLt
  have hn := n.isLt
  rw [hy]
  have e0 : (Rect.unit (s := S64x8x512) ![o, 0, p] S16x8x128.size inb).emb (ix3 a b u) 0 = (⟨16 * m.val + a.val, by omega⟩ : Fin 64) := by
    apply Fin.ext; show o + 1 * a.val = 16 * m.val + a.val; omega
  have e1 : (Rect.unit (s := S64x8x512) ![o, 0, p] S16x8x128.size inb).emb (ix3 a b u) 1 = b := by
    apply Fin.ext; show 0 + 1 * b.val = b.val; omega
  have e2 : (Rect.unit (s := S64x8x512) ![o, 0, p] S16x8x128.size inb).emb (ix3 a b u) 2 = (⟨256 * n.val + 0 + u.val, by omega⟩ : Fin 512) := by
    apply Fin.ext; show p + 1 * u.val = 256 * n.val + 0 + u.val; omega
  show _ = ysum i R1 R3 R5 R7 _ _ _
  rw [e0, e1, e2]
  refine (cut_read _ a b u).trans ?_
  refine (acc0_read _ _ _ _ ⟨8 * a.val + b.val, by omega⟩ u 64 (Nat.le_refl 64)).trans ?_
  unfold ysum
  refine Finset.sum_congr rfl fun g _ => ?_
  refine congrArg₂ (· * ·) (congrArg₂ (· * ·) (Finset.sum_congr rfl fun x _ => congrArg₂ (· * ·) ?_ ?_) ?_) ?_
  · refine (ld2 R5 (128 * m.val) (128 * g.val) _ _ x (by show _ + (8 * a.val + b.val) < _; omega) (by omega)).trans (congrArg R5 ?_)
    funext d
    match d with
    | ⟨0, _⟩ => apply Fin.ext; show 128 * m.val + (8 * a.val + b.val) = 8 * (16 * m.val + a.val) + b.val; omega
    | ⟨1, _⟩ => rfl
  · refine (ld2 R3 (128 * g.val) (256 * n.val) _ x _ (by omega) (by show 256 * n.val + u.val < 512; omega)).trans (congrArg R3 ?_)
    funext d
    match d with
    | ⟨0, _⟩ => rfl
    | ⟨1, _⟩ => apply Fin.ext; show 256 * n.val + u.val = 256 * n.val + 0 + u.val; omega
  · refine (ld3 R7 g.val (128 * m.val) 0 _ (0 : Fin 1) _ u (by omega) (by show _ + (8 * a.val + b.val) < _; omega) (by omega)).trans (congrArg R7 ?_)
    funext d
    match d with
    | ⟨0, _⟩ => rfl
    | ⟨1, _⟩ => apply Fin.ext; show 128 * m.val + (8 * a.val + b.val) = 8 * (16 * m.val + a.val) + b.val; omega
    | ⟨2, _⟩ => apply Fin.ext; show 0 + u.val = (256 * n.val + 0 + u.val) % 128; omega
  · refine (ld_sw R1 i g.val g.isLt n 0 _).trans (congrArg R1 ?_)
    funext d
    match d with
    | ⟨0, _⟩ => apply Fin.ext; show 4 * (i 0).val + 2 * n.val + 0 = 4 * (i 0).val + (256 * n.val + 0 + u.val) / 128; omega
    | ⟨1, _⟩ => rfl

/-- A tile of the right half is the block of the sum at its place. -/
theorem tile1 (i : grid0.Coords) (R1 : S48x64.Idx → EReal) (R3 : S8192x512.Idx → EReal) (R5 : S512x8192.Idx → EReal)
    (R7 : S64x512x128.Idx → EReal) (m : Fin 4) (n : Fin 2) (o p : Nat) (ho : o = 16 * m.val) (hp : p = 256 * n.val + 128) (inb)
    (y : S16x8x128.Idx) :
    outTile (F := Ideal) i R1 R3 R5 R7 sl1 m n 1 y
      = (fun z : S64x8x512.Idx => ysum i R1 R3 R5 R7 (z 0) (z 1) (z 2)) ((Rect.unit (s := S64x8x512) ![o, 0, p] S16x8x128.size inb).emb y) := by
  obtain ⟨a, ha⟩ : ∃ a : Fin 16, a = y 0 := ⟨_, rfl⟩
  obtain ⟨b, hb⟩ : ∃ b : Fin 8, b = y 1 := ⟨_, rfl⟩
  obtain ⟨u, hu⟩ : ∃ u : Fin 128, u = y 2 := ⟨_, rfl⟩
  have hy : y = ix3 a b u := by
    funext d
    match d with
    | ⟨0, _⟩ => exact ha.symm
    | ⟨1, _⟩ => exact hb.symm
    | ⟨2, _⟩ => exact hu.symm
  have hm := m.isLt
  have hn := n.isLt
  rw [hy]
  have e0 : (Rect.unit (s := S64x8x512) ![o, 0, p] S16x8x128.size inb).emb (ix3 a b u) 0 = (⟨16 * m.val + a.val, by omega⟩ : Fin 64) := by
    apply Fin.ext; show o + 1 * a.val = 16 * m.val + a.val; omega
  have e1 : (Rect.unit (s := S64x8x512) ![o, 0, p] S16x8x128.size inb).emb (ix3 a b u) 1 = b := by
    apply Fin.ext; show 0 + 1 * b.val = b.val; omega
  have e2 : (Rect.unit (s := S64x8x512) ![o, 0, p] S16x8x128.size inb).emb (ix3 a b u) 2 = (⟨256 * n.val + 128 + u.val, by omega⟩ : Fin 512) := by
    apply Fin.ext; show p + 1 * u.val = 256 * n.val + 128 + u.val; omega
  show _ = ysum i R1 R3 R5 R7 _ _ _
  rw [e0, e1, e2]
  refine (cut_read _ a b u).trans ?_
  refine (acc1_read _ _ _ _ ⟨8 * a.val + b.val, by omega⟩ u 64 (Nat.le_refl 64)).trans ?_
  unfold ysum
  refine Finset.sum_congr rfl fun g _ => ?_
  refine congrArg₂ (· * ·) (congrArg₂ (· * ·) (Finset.sum_congr rfl fun x _ => congrArg₂ (· * ·) ?_ ?_) ?_) ?_
  · refine (ld2 R5 (128 * m.val) (128 * g.val) _ _ x (by show _ + (8 * a.val + b.val) < _; omega) (by omega)).trans (congrArg R5 ?_)
    funext d
    match d with
    | ⟨0, _⟩ => apply Fin.ext; show 128 * m.val + (8 * a.val + b.val) = 8 * (16 * m.val + a.val) + b.val; omega
    | ⟨1, _⟩ => rfl
  · refine (ld2 R3 (128 * g.val) (256 * n.val) _ x _ (by omega) (by show 256 * n.val + (128 + u.val) < 512; omega)).trans (congrArg R3 ?_)
    funext d
    match d with
    | ⟨0, _⟩ => rfl
    | ⟨1, _⟩ => apply Fin.ext; show 256 * n.val + (128 + u.val) = 256 * n.val + 128 + u.val; omega
  · refine (ld3 R7 g.val (128 * m.val) 0 _ (0 : Fin 1) _ u (by omega) (by show _ + (8 * a.val + b.val) < _; omega) (by omega)).trans (congrArg R7 ?_)
    funext d
    match d with
    | ⟨0, _⟩ => rfl
    | ⟨1, _⟩ => apply Fin.ext; show 128 * m.val + (8 * a.val + b.val) = 8 * (16 * m.val + a.val) + b.val; omega
    | ⟨2, _⟩ => apply Fin.ext; show 0 + u.val = (256 * n.val + 128 + u.val) % 128; omega
  · refine (ld_sw R1 i g.val g.isLt n 1 _).trans (congrArg R1 ?_)
    funext d
    match d with
    | ⟨0, _⟩ => apply Fin.ext; show 4 * (i 0).val + 2 * n.val + 1 = 4 * (i 0).val + (256 * n.val + 128 + u.val) / 128; omega
    | ⟨1, _⟩ => rfl

/-- The output block, read. -/
theorem YB_read (i : grid0.Coords) (R1 : S48x64.Idx → EReal) (R3 : S8192x512.Idx → EReal) (R5 : S512x8192.Idx → EReal)
    (R7 : S64x512x128.Idx → EReal) (z : S64x8x512.Idx) : YB (F := Ideal) i R1 R3 R5 R7 z = ysum i R1 R3 R5 R7 (z 0) (z 1) (z 2) := by
  refine View.canon_apply_of_pieces (fun z : S64x8x512.Idx => ysum i R1 R3 R5 R7 (z 0) (z 1) (z 2)) _ ?_ z (outPieces_cover (F := Ideal) i R1 R3 R5 R7 z)
  intro q hq y
  unfold outPieces at hq
  simp only [List.mem_cons, List.mem_nil_iff, or_false] at hq
  rcases hq with rfl | rfl | rfl | rfl | rfl | rfl | rfl | rfl | rfl | rfl | rfl | rfl | rfl | rfl | rfl | rfl
  · exact tile1 i R1 R3 R5 R7 3 1 48 384 rfl rfl inb_S64x8x512_S16x8x128_48_0_384 y
  · exact tile0 i R1 R3 R5 R7 3 1 48 256 rfl rfl inb_S64x8x512_S16x8x128_48_0_256 y
  · exact tile1 i R1 R3 R5 R7 3 0 48 128 rfl rfl inb_S64x8x512_S16x8x128_48_0_128 y
  · exact tile0 i R1 R3 R5 R7 3 0 48 0 rfl rfl inb_S64x8x512_S16x8x128_48_0_0 y
  · exact tile1 i R1 R3 R5 R7 2 1 32 384 rfl rfl inb_S64x8x512_S16x8x128_32_0_384 y
  · exact tile0 i R1 R3 R5 R7 2 1 32 256 rfl rfl inb_S64x8x512_S16x8x128_32_0_256 y
  · exact tile1 i R1 R3 R5 R7 2 0 32 128 rfl rfl inb_S64x8x512_S16x8x128_32_0_128 y
  · exact tile0 i R1 R3 R5 R7 2 0 32 0 rfl rfl inb_S64x8x512_S16x8x128_32_0_0 y
  · exact tile1 i R1 R3 R5 R7 1 1 16 384 rfl rfl inb_S64x8x512_S16x8x128_16_0_384 y
  · exact tile0 i R1 R3 R5 R7 1 1 16 256 rfl rfl inb_S64x8x512_S16x8x128_16_0_256 y
  · exact tile1 i R1 R3 R5 R7 1 0 16 128 rfl rfl inb_S64x8x512_S16x8x128_16_0_128 y
  · exact tile0 i R1 R3 R5 R7 1 0 16 0 rfl rfl inb_S64x8x512_S16x8x128_16_0_0 y
  · exact tile1 i R1 R3 R5 R7 0 1 0 384 rfl rfl inb_S64x8x512_S16x8x128_0_0_384 y
  · exact tile0 i R1 R3 R5 R7 0 1 0 256 rfl rfl inb_S64x8x512_S16x8x128_0_0_256 y
  · exact tile1 i R1 R3 R5 R7 0 0 0 128 rfl rfl inb_S64x8x512_S16x8x128_0_0_128 y
  · exact tile0 i R1 R3 R5 R7 0 0 0 0 rfl rfl inb_S64x8x512_S16x8x128_0_0_0 y

end Cert.KernelIdeal.Hand

end
-- ==== Proof.RefRun.lean ====
/- The run of the reference, read: at its one grid point every window is its whole array, so each result is the body's
   payload of the argument arrays. -/
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x256x8192.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 256 + 1 * (j 1).val = (j 1).val; omega
  | ⟨2, _⟩ => show win0_0.index t (2 : Fin 3) * 8192 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S8192x6144.Idx) : ((cfg0.win 1).blk t).view.emb j = j := by
  obtain ⟨e0, e1⟩ := idx_zero1 t
  funext a; apply Fin.ext
  match a with
  | ⟨0, _⟩ => show win0_1.index t (0 : Fin 2) * 8192 + 1 * (j 0).val = (j 0).val; omega
  | ⟨1, _⟩ => show win0_1.index t (1 : Fin 2) * 6144 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S64x48.Idx) : ((cfg0.win 2).blk t).view.emb j = j := by
  obtain ⟨e0, e1⟩ := idx_zero2 t
  funext a; apply Fin.ext
  match a with
  | ⟨0, _⟩ => show win0_2.index t (0 : Fin 2) * 64 + 1 * (j 0).val = (j 0).val; omega
  | ⟨1, _⟩ => show win0_2.index t (1 : Fin 2) * 48 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S2x256x6144.Idx) : ((cfg0.win 3).blk t).view.emb j = j := by
  obtain ⟨e0, e1, e2⟩ := idx_zero3 t
  funext a; apply Fin.ext
  match a with
  | ⟨0, _⟩ => show win0_3.index t (0 : Fin 3) * 2 + 1 * (j 0).val = (j 0).val; omega
  | ⟨1, _⟩ => show win0_3.index t (1 : Fin 3) * 256 + 1 * (j 1).val = (j 1).val; omega
  | ⟨2, _⟩ => show win0_3.index t (2 : Fin 3) * 6144 + 1 * (j 2).val = (j 2).val; omega

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S2x256x8192.Idx) : ((cfg0.win 4).blk t).view.emb j = j := by
  obtain ⟨e0, e1, e2⟩ := idx_zero4 t
  funext a; apply Fin.ext
  match a with
  | ⟨0, _⟩ => show win0_4.index t (0 : Fin 3) * 2 + 1 * (j 0).val = (j 0).val; omega
  | ⟨1, _⟩ => show win0_4.index t (1 : Fin 3) * 256 + 1 * (j 1).val = (j 1).val; omega
  | ⟨2, _⟩ => show win0_4.index t (2 : Fin 3) * 8192 + 1 * (j 2).val = (j 2).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S2x256x64.Idx) : ((cfg0.win 5).blk t).view.emb j = j := by
  obtain ⟨e0, e1, e2⟩ := idx_zero5 t
  funext a; apply Fin.ext
  match a with
  | ⟨0, _⟩ => show win0_5.index t (0 : Fin 3) * 2 + 1 * (j 0).val = (j 0).val; omega
  | ⟨1, _⟩ => show win0_5.index t (1 : Fin 3) * 256 + 1 * (j 1).val = (j 1).val; omega
  | ⟨2, _⟩ => show win0_5.index t (2 : Fin 3) * 64 + 1 * (j 2).val = (j 2).val; omega

/-! ### Output window 3: the array after the run -/

/-- What the window's array ends holding: `out0_3` applied to the argument arrays in place of the input blocks (a value that the
    frame states apart, `kK_payN a…`, keeps its loads inside its own definition). -/
abbrev G3 (a0 : Vec F S2x256x8192 .bf16) (a1 : Vec F S8192x6144 .fp8e4m3) (a2 : Vec F S64x48 .f32) : Vec F S2x256x6144 .bf16 :=
  k0_pay1 (k0_pay8 a0 a1 a2)

/-- A load of the whole of a block reads the block, and the one store through the whole rectangle leaves its payload. -/
theorem out3_eq (a0 : Vec F S2x256x8192 .bf16) (a1 : Vec F S8192x6144 .fp8e4m3) (a2 : Vec F S64x48 .f32) : out0_3 (F := F) a0 a1 a2 = G3 a0 a1 a2 := by
  unfold out0_3
  rw [View.canon_unit_zero hz3, View.ld_unit_zero (S := S2x256x8192) hz0 _ a0, View.ld_unit_zero (S := S8192x6144) hz1 _ a1, View.ld_unit_zero (S := S64x48) hz2 _ a2]

/-- Cutting the point's block out of `X` and reading `X` through the block's view give the same. -/
theorem cut3_eq (t : Fin cfg0.N) (X : Vec F S2x256x6144 .bf16) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S2x256x6144.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S2x256x8192 .bf16) (a1 : Vec F S8192x6144 .fp8e4m3) (a2 : Vec F S64x48 .f32) : Vec F S2x256x8192 .fp8e4m3 :=
  k0_pay2 (k0_pay6 a0)

/-- A load of the whole of a block reads the block, and the one store through the whole rectangle leaves its payload. -/
theorem out4_eq (a0 : Vec F S2x256x8192 .bf16) (a1 : Vec F S8192x6144 .fp8e4m3) (a2 : Vec F S64x48 .f32) : out0_4 (F := F) a0 a1 a2 = G4 a0 a1 a2 := by
  unfold out0_4
  rw [View.canon_unit_zero hz4, View.ld_unit_zero (S := S2x256x8192) hz0 _ a0]

/-- Cutting the point's block out of `X` and reading `X` through the block's view give the same. -/
theorem cut4_eq (t : Fin cfg0.N) (X : Vec F S2x256x8192 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S2x256x8192.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S2x256x8192 .bf16) (a1 : Vec F S8192x6144 .fp8e4m3) (a2 : Vec F S64x48 .f32) : Vec F S2x256x64 .f32 :=
  k0_pay3 (k0_pay7 a0)

/-- A load of the whole of a block reads the block, and the one store through the whole rectangle leaves its payload. -/
theorem out5_eq (a0 : Vec F S2x256x8192 .bf16) (a1 : Vec F S8192x6144 .fp8e4m3) (a2 : Vec F S64x48 .f32) : out0_5 (F := F) a0 a1 a2 = G5 a0 a1 a2 := by
  unfold out0_5
  rw [View.canon_unit_zero hz5, View.ld_unit_zero (S := S2x256x8192) hz0 _ a0]

/-- Cutting the point's block out of `X` and reading `X` through the block's view give the same. -/
theorem cut5_eq (t : Fin cfg0.N) (X : Vec F S2x256x64 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S2x256x64.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      kept_main_arg0 m r h c,
      kept_main_arg1 m r h c,
      kept_main_arg2 m r h c⟩)
    (run_main m ρ)

end Cert.ReferenceIdeal.Hand

end
-- ==== Proof.RefRead.lean ====
/- The reference's three results over the reals, at an index. -/
module

public import proofs.«01_k».proof.Proof.RefRun
public import proofs.«01_k».proof.Proof.Spec
public import Idealize.ShloMosaic.Lib.Pointwise

@[expose] public section

set_option maxRecDepth 16384

noncomputable section

namespace Cert.ReferenceIdeal.Hand

open Idealize.ShloMosaic Idealize.ShloMosaic.Pointwise
open Cert.ReferenceIdeal Cert.ReferenceIdeal.Gen Cert.Expo

/-- A row of one group of `x`, the rows of the batches one after another. -/
def rrow (v : S2x256x8192.Idx → EReal) (r : Fin 512) (g : Fin 64) : Fin 128 → EReal :=
  fun k => v (ix3 ⟨r.val / 256, by omega⟩ ⟨r.val % 256, by omega⟩ ⟨128 * g.val + k.val, by omega⟩)

theorem r_grp (v : Vec Ideal S2x256x8192 .bf16) (r : Fin 512) (g : Fin 64) (k : Fin 128) :
    k0_pay4 (F := Ideal) v (ix3 r g k) = rrow v r g k := by
  pointwise [k0_pay4]
  have e : g.val * 128 + k.val = 128 * g.val + k.val := by omega
  unfold rrow
  simp only [e]

theorem cast_col (w : FVec Ideal S512x64 .f32) (r : Fin 512) (g : Fin 64) (u : Fin 1) :
    (shapeCast S512x64x1 w shapeCasts_S512x64_S512x64x1 : FVec Ideal S512x64x1 .f32) (ix3 r g u) = w (ix2 r g) := by
  pointwise []

theorem max_read (w : FVec Ideal S512x64x128 .f32) (r : Fin 512) (g : Fin 64) :
    multiReduction (F := Ideal) .maximumf [2] S512x64 w 0xFF800000#32 reduces_S512x64x128_S512x64 (.inl rfl) rfl (ix2 r g)
      = Finset.fold max (Ideal.ofBits .f32 0xFF800000#32) (fun k : Fin 128 => w (ix3 r g k)) Finset.univ := by
  refine (Ideal.multiReduction_maximumf_single (a := 2) w 0xFF800000#32 reduces_S512x64x128_S512x64 (.inl rfl) rfl (ix2 r g)).trans ?_
  refine congrArg (fun f => Finset.fold max (Ideal.ofBits .f32 0xFF800000#32) f Finset.univ) (funext fun k => congrArg w ?_)
  funext d
  match d with
  | ⟨0, _⟩ => rfl
  | ⟨1, _⟩ => rfl
  | ⟨2, _⟩ => rfl

/-- The exponents from the largest magnitudes. -/
def expo (v5 : FVec Ideal S512x64x1 .f32) : FVec Ideal S512x64x1 .f32 :=
  select (cmpf .oeq v5 (broadcast S512x64x1 (Scalar.ofBits .f32 0x00000000#32))) (broadcast S512x64x1 (Scalar.ofBits .f32 0x00000000#32))
    (addf (floor (divf (log (mulf v5 (broadcast S512x64x1 (Scalar.ofBits .f32 0x3B124925#32))))
      (broadcast S512x64x1 (Named.named κ "ln_2" 0x3F317218#32)))) (broadcast S512x64x1 (Scalar.ofBits .f32 0x3F800000#32)))

theorem pay5_eq (v : Vec Ideal S2x256x8192 .bf16) :
    k0_pay5 (F := Ideal) v = expo (shapeCast S512x64x1 (multiReduction (F := Ideal) .maximumf [2] S512x64 (absf (k0_pay4 v)) 0xFF800000#32 reduces_S512x64x128_S512x64 (.inl rfl) rfl) shapeCasts_S512x64_S512x64x1) := rfl

theorem expo_read (v5 : FVec Ideal S512x64x1 .f32) (y : S512x64x1.Idx) : expo v5 y = rexp (v5 y) (v5 y * cc) := by
  have e0 : Ideal.ofBits .f32 0x00000000#32 = (0 : EReal) := by simp
  have e1 : Ideal.ofBits .f32 0x3F800000#32 = (1 : EReal) := by simp
  have e2 : (Named.named (F := Ideal) (φ := .f32) κ "ln_2" 0x3F317218#32 : EReal) = ((Real.log 2 : ℝ) : EReal) := IdealRules.named_const.ideal_named_scalar _ _ _ _ rfl
  show Scalar.select (Ideal.cmp .oeq (v5 y) (Ideal.ofBits .f32 0x00000000#32)) (Ideal.ofBits .f32 0x00000000#32)
    (Ideal.liftRound Int.floor (Ideal.div (Ideal.log (v5 y * cc)) (Named.named (F := Ideal) (φ := .f32) κ "ln_2" 0x3F317218#32)) + Ideal.ofBits .f32 0x3F800000#32) = _
  rw [e0, e1, e2]
  unfold rexp
  by_cases h : v5 y = 0
  · rw [if_pos h]
    simp [Scalar.select, Ideal.cmp, h]
  · rw [if_neg h]
    simp [Scalar.select, Ideal.cmp, h]

theorem pay5_read (v : Vec Ideal S2x256x8192 .bf16) (r : Fin 512) (g : Fin 64) (u : Fin 1) :
    k0_pay5 (F := Ideal) v (ix3 r g u) = rexp (amax (rrow v r g)) (amax (rrow v r g) * cc) := by
  rw [pay5_eq, expo_read, cast_col, max_read]
  have e : (fun k : Fin 128 => (absf (k0_pay4 (F := Ideal) v) : FVec Ideal S512x64x128 .f32) (ix3 r g k)) = fun x => FloatOps.absf (F := Ideal) (φ := .f32) (rrow v r g x) := by
    funext k
    show FloatOps.absf (F := Ideal) (φ := .f32) (k0_pay4 (F := Ideal) v (ix3 r g k)) = _
    rw [r_grp]
  rw [e]
  rfl

/-- The codes from the rows and the exponents. -/
def codes (a : FVec Ideal S512x64x128 .f32) (e : FVec Ideal S512x64x1 .f32) : FVec Ideal S512x64x128 .fp8e4m3 :=
  truncf .fp8e4m3 (minimumf (broadcast S512x64x128 (Scalar.ofBits .f32 0x43E00000#32))
    (maximumf (broadcast S512x64x128 (Scalar.ofBits .f32 0xC3E00000#32))
      (mulf a (broadcastTo S512x64x128 (exp2 (subf (broadcast S512x64x1 (Scalar.ofBits .f32 0x00000000#32)) e)) broadcasts_S512x64x1_S512x64x128))))
    bitsLt_fp8e4m3_f32

theorem pay6_eq (v : Vec Ideal S2x256x8192 .bf16) : k0_pay6 (F := Ideal) v = codes (k0_pay4 v) (k0_pay5 v) := rfl

theorem codes_read (a : FVec Ideal S512x64x128 .f32) (e : FVec Ideal S512x64x1 .f32) (r : Fin 512) (g : Fin 64) (k : Fin 128) :
    codes a e (ix3 r g k) = min (Ideal.ofBits .f32 0x43E00000#32) (max (Ideal.ofBits .f32 0xC3E00000#32)
      (a (ix3 r g k) * Ideal.exp2 (0 - e (ix3 r g 0)))) := by
  pointwise [codes]
  rfl

theorem pay6_read (v : Vec Ideal S2x256x8192 .bf16) (r : Fin 512) (g : Fin 64) (k : Fin 128) :
    k0_pay6 (F := Ideal) v (ix3 r g k) = rcode (rrow v r g) k := by
  rw [pay6_eq, codes_read, pay5_read, r_grp]
  rfl

theorem exp2_read (e : FVec Ideal S512x64x1 .f32) (y : S512x64x1.Idx) : (exp2 e : FVec Ideal S512x64x1 .f32) y = Ideal.exp2 (e y) := rfl

theorem pay7_eq (v : Vec Ideal S2x256x8192 .bf16) : k0_pay7 (F := Ideal) v = exp2 (k0_pay5 v) := rfl

theorem pay7_read (v : Vec Ideal S2x256x8192 .bf16) (r : Fin 512) (g : Fin 64) (u : Fin 1) :
    k0_pay7 (F := Ideal) v (ix3 r g u) = rscale (rrow v r g) := by
  rw [pay7_eq, exp2_read, pay5_read]
  rfl

end Cert.ReferenceIdeal.Hand

end
-- ==== Proof.KerRead.lean ====
/- The kernel's three results over the reals, at an index. -/
module

public import proofs.«01_k».proof.Proof.Arrays
public import proofs.«01_k».proof.Proof.ReadQ
public import proofs.«01_k».proof.Proof.ReadY
public import proofs.«01_k».proof.Proof.RefRead

@[expose] public section

set_option maxRecDepth 16384

noncomputable section

namespace Cert.KernelIdeal.Hand

open Idealize.ShloMosaic Idealize.ShloMosaic.Pointwise Idealize.ShloMosaic.TcCoe
open Cert.KernelIdeal Cert.KernelIdeal.Gen Cert.Expo
open Cert.ReferenceIdeal.Hand (rrow)

/-- The scales' buffer at an index. -/
def xsAt (x : S512x8192.Idx → EReal) (b : Fin 2) (g : Fin 64) (s : Fin 256) : EReal := kscale (row x ⟨b.val * 256 + s.val, by omega⟩ g)

theorem lo_piece (x : S512x8192.Idx → EReal) (inb) (y : S1x64x256.Idx) :
    k0_pay10 (F := Ideal) (tab (F := Ideal) x 64) y
      = (fun z : S2x64x256.Idx => xsAt x (z 0) (z 1) (z 2)) ((Rect.unit (s := S2x64x256) ![0, 0, 0] S1x64x256.size inb).emb y) := by
  have h0 : (y 0).val < 1 := (y 0).isLt
  have ey : y = ix3 (0 : Fin 1) (y 1) (y 2) := by
    funext d
    match d with
    | ⟨0, _⟩ => exact Fin.ext (by show (y 0).val = 0; omega)
    | ⟨1, _⟩ => rfl
    | ⟨2, _⟩ => rfl
  have a0 : ((Rect.unit (s := S2x64x256) ![0, 0, 0] S1x64x256.size inb).emb y) 0 = (0 : Fin 2) := Fin.ext (by show 0 + 1 * (y 0).val = 0; omega)
  have a1 : ((Rect.unit (s := S2x64x256) ![0, 0, 0] S1x64x256.size inb).emb y) 1 = (y 1 : Fin 64) := Fin.ext (by show 0 + 1 * (y 1).val = (y 1).val; omega)
  have a2 : ((Rect.unit (s := S2x64x256) ![0, 0, 0] S1x64x256.size inb).emb y) 2 = (y 2 : Fin 256) := Fin.ext (by show 0 + 1 * (y 2).val = (y 2).val; omega)
  have key : ∀ (g : Fin 64) (s : Fin 256), k0_pay10 (F := Ideal) (tab (F := Ideal) x 64) (ix3 (0 : Fin 1) g s) = xsAt x 0 g s := by
    intro g s
    rw [k_lo]
    refine (tab_read x ⟨s.val, by omega⟩ g 64 (le_refl _) g.isLt).trans ?_
    unfold xsAt
    refine congrArg (fun r => kscale (row x r g)) (Fin.ext ?_)
    show s.val = 0 * 256 + s.val
    omega
  refine ((congrArg (k0_pay10 (F := Ideal) (tab (F := Ideal) x 64)) ey).trans (key (y 1) (y 2))).trans ?_
  show xsAt x 0 (y 1) (y 2) = xsAt x _ _ _
  rw [a0, a1, a2]

theorem hi_piece (x : S512x8192.Idx → EReal) (inb) (y : S1x64x256.Idx) :
    k0_pay11 (F := Ideal) (tab (F := Ideal) x 64) y
      = (fun z : S2x64x256.Idx => xsAt x (z 0) (z 1) (z 2)) ((Rect.unit (s := S2x64x256) ![1, 0, 0] S1x64x256.size inb).emb y) := by
  have h0 : (y 0).val < 1 := (y 0).isLt
  have ey : y = ix3 (0 : Fin 1) (y 1) (y 2) := by
    funext d
    match d with
    | ⟨0, _⟩ => exact Fin.ext (by show (y 0).val = 0; omega)
    | ⟨1, _⟩ => rfl
    | ⟨2, _⟩ => rfl
  have a0 : ((Rect.unit (s := S2x64x256) ![1, 0, 0] S1x64x256.size inb).emb y) 0 = (1 : Fin 2) := Fin.ext (by show 1 + 1 * (y 0).val = 1; omega)
  have a1 : ((Rect.unit (s := S2x64x256) ![1, 0, 0] S1x64x256.size inb).emb y) 1 = (y 1 : Fin 64) := Fin.ext (by show 0 + 1 * (y 1).val = (y 1).val; omega)
  have a2 : ((Rect.unit (s := S2x64x256) ![1, 0, 0] S1x64x256.size inb).emb y) 2 = (y 2 : Fin 256) := Fin.ext (by show 0 + 1 * (y 2).val = (y 2).val; omega)
  have key : ∀ (g : Fin 64) (s : Fin 256), k0_pay11 (F := Ideal) (tab (F := Ideal) x 64) (ix3 (0 : Fin 1) g s) = xsAt x 1 g s := by
    intro g s
    rw [k_hi]
    refine (tab_read x ⟨256 + s.val, by omega⟩ g 64 (le_refl _) g.isLt).trans ?_
    unfold xsAt
    refine congrArg (fun r => kscale (row x r g)) (Fin.ext ?_)
    show 256 + s.val = 1 * 256 + s.val
    omega
  refine ((congrArg (k0_pay11 (F := Ideal) (tab (F := Ideal) x 64)) ey).trans (key (y 1) (y 2))).trans ?_
  show xsAt x 1 (y 1) (y 2) = xsAt x _ _ _
  rw [a0, a1, a2]

theorem XS_read (x : S512x8192.Idx → EReal) (z : S2x64x256.Idx) : XS (F := Ideal) x z = xsAt x (z 0) (z 1) (z 2) := by
  refine View.canon_apply_of_pieces (fun z : S2x64x256.Idx => xsAt x (z 0) (z 1) (z 2)) _ ?_ z (xsPieces_cover (F := Ideal) (tab (F := Ideal) x 64) z)
  intro q hq y
  unfold xsPieces at hq
  simp only [List.mem_cons, List.mem_nil_iff, or_false] at hq
  rcases hq with rfl | rfl
  · exact hi_piece x inb_S2x64x256_S1x64x256_1_0_0 y
  · exact lo_piece x inb_S2x64x256_S1x64x256_0_0_0 y

variable (m : (ℓ : Loc nD τ sig) → Buf (Elt Ideal) ℓ)

theorem cast_X (v : S2x256x8192.Idx → EReal) (r : Fin 512) (n : Fin 8192) :
    (shapeCast S512x8192 (v : FVec Ideal S2x256x8192 .bf16) shapeCasts_S2x256x8192_S512x8192 : FVec Ideal S512x8192 .bf16) (ix2 r n)
      = v (ix3 ⟨r.val / 256, by omega⟩ ⟨r.val % 256, by omega⟩ n) := by
  pointwise []

theorem xArr_row (c : Dev nD) (r : Fin 512) (g : Fin 64) :
    row (xArr m c) r g = rrow (m ((c : Thread nD τ).loc main_arg0)) r g := by
  rw [xArr_eq]
  funext k
  exact cast_X (m ((c : Thread nD τ).loc main_arg0)) r ⟨128 * g.val + k.val, by omega⟩

theorem cast_C (w : S512x8192.Idx → EReal) (b : Fin 2) (s : Fin 256) (n : Fin 8192) :
    (shapeCast S2x256x8192 (w : FVec Ideal S512x8192 .fp8e4m3) shapeCasts_S512x8192_S2x256x8192 : FVec Ideal S2x256x8192 .fp8e4m3) (ix3 b s n)
      = w (ix2 ⟨b.val * 256 + s.val, by omega⟩ n) := by
  pointwise []

theorem resC_read (c : Dev nD) (b : Fin 2) (s : Fin 256) (n : Fin 8192) :
    resC m c (ix3 b s n) = kcode (rrow (m ((c : Thread nD τ).loc main_arg0)) ⟨b.val * 256 + s.val, by omega⟩ ⟨n.val / 128, by omega⟩) ⟨n.val % 128, by omega⟩ := by
  unfold resC
  refine (cast_C (XC (F := Ideal) (xArr m c)) b s n).trans ?_
  rw [XC_read, xArr_row]
  rfl

theorem turn_S (w : S2x64x256.Idx → EReal) (b : Fin 2) (s : Fin 256) (g : Fin 64) :
    (transpose S2x256x64 [0, 2, 1] (w : FVec Ideal S2x64x256 .f32) transposes_S2x64x256_S2x256x64_0_2_1 : FVec Ideal S2x256x64 .f32) (ix3 b s g)
      = w (ix3 b g s) := by
  pointwise []

theorem resS_read (c : Dev nD) (b : Fin 2) (s : Fin 256) (g : Fin 64) :
    resS m c (ix3 b s g) = kscale (rrow (m ((c : Thread nD τ).loc main_arg0)) ⟨b.val * 256 + s.val, by omega⟩ g) := by
  unfold resS
  refine (turn_S (XS (F := Ideal) (xArr m c)) b s g).trans ?_
  rw [XS_read]
  show kscale (row (xArr m c) ⟨b.val * 256 + s.val, _⟩ g) = _
  rw [xArr_row]

theorem turn_W (w : S64x48.Idx → EReal) (j : Fin 48) (g : Fin 64) :
    (transpose S48x64 [1, 0] (w : FVec Ideal S64x48 .f32) transposes_S64x48_S48x64_1_0 : FVec Ideal S48x64 .f32) (ix2 j g) = w (ix2 g j) := by
  pointwise []

theorem cast_Y (w : S64x8x6144.Idx → EReal) (b : Fin 2) (s : Fin 256) (n : Fin 6144) :
    (shapeCast S2x256x6144 (w : FVec Ideal S64x8x6144 .bf16) shapeCasts_S64x8x6144_S2x256x6144 : FVec Ideal S2x256x6144 .bf16) (ix3 b s n)
      = w (ix3 ⟨(b.val * 256 + s.val) / 8, by omega⟩ ⟨(b.val * 256 + s.val) % 8, by omega⟩ n) := by
  pointwise []
  have e1 : b.val * 32 + s.val / 8 = (b.val * 256 + s.val) / 8 := by omega
  have e2 : s.val % 8 = (b.val * 256 + s.val) % 8 := by omega
  exact congrArg₂ (fun p q => w (ix3 p q n)) (Fin.ext e1) (Fin.ext e2)

theorem resY_read (c : Dev nD) (b : Fin 2) (s : Fin 256) (n : Fin 6144) :
    resY m c (ix3 b s n) = ∑ g : Fin 64,
      (∑ x : Fin 128, kcode (rrow (m ((c : Thread nD τ).loc main_arg0)) ⟨b.val * 256 + s.val, by omega⟩ g) x
          * m ((c : Thread nD τ).loc main_arg1) (ix2 ⟨128 * g.val + x.val, by omega⟩ n))
        * kscale (rrow (m ((c : Thread nD τ).loc main_arg0)) ⟨b.val * 256 + s.val, by omega⟩ g)
        * m ((c : Thread nD τ).loc main_arg2) (ix2 g ⟨n.val / 128, by omega⟩) := by
  unfold resY
  refine (cast_Y (yArr m c) b s n).trans ?_
  show YB (F := Ideal) (grid0.coords (tOf n)) (swArr m c) (iblk m c 2 (tOf n)) (XC (xArr m c)) (SXB (xArr m c)) _ = _
  rw [YB_read]
  unfold ysum
  have ec : (grid0.coords (tOf n) 0).val = n.val / 512 := by
    have h : (grid0.coords (tOf n) 0).val = (tOf n).val / 1 % 12 := Pipeline.Grid.coords_val (tOf n) 0 (by decide) rfl
    have h' : (tOf n).val = n.val / 512 := rfl
    rw [h, h']
    omega
  refine Finset.sum_congr rfl fun g _ => ?_
  refine congrArg₂ (· * ·) (congrArg₂ (· * ·) (Finset.sum_congr rfl fun x _ => congrArg₂ (· * ·) ?_ ?_) ?_) ?_
  · refine (XC_read (xArr m c) _ _).trans ?_
    rw [xArr_row]
    have eg : gOf ⟨128 * g.val + x.val, by omega⟩ = g := Fin.ext (by show (128 * g.val + x.val) / 128 = g.val; omega)
    have ek : kOf ⟨128 * g.val + x.val, by omega⟩ = x := Fin.ext (by show (128 * g.val + x.val) % 128 = x.val; omega)
    rw [eg, ek]
    refine congrArg (fun r => kcode (rrow (m ((c : Thread nD τ).loc main_arg0)) r g) x) (Fin.ext ?_)
    show 8 * ((b.val * 256 + s.val) / 8) + (b.val * 256 + s.val) % 8 = b.val * 256 + s.val
    omega
  · refine iblk_2 m c (tOf n) _ _ n ?_
    show n.val = 512 * (n.val / 512) + n.val % 512
    omega
  · refine (SXB_read (xArr m c) g _ _).trans ?_
    rw [xArr_row]
    refine congrArg (fun r => kscale (rrow (m ((c : Thread nD τ).loc main_arg0)) r g)) (Fin.ext ?_)
    show 8 * ((b.val * 256 + s.val) / 8) + (b.val * 256 + s.val) % 8 = b.val * 256 + s.val
    omega
  · rw [swArr_eq]
    refine (turn_W (m ((c : Thread nD τ).loc main_arg2)) _ g).trans ?_
    refine congrArg (fun j => m ((c : Thread nD τ).loc main_arg2) (ix2 g j)) (Fin.ext ?_)
    show 4 * (grid0.coords (tOf n) 0).val + n.val % 512 / 128 = n.val / 128
    rw [ec]
    omega

end Cert.KernelIdeal.Hand

end
-- ==== Proof.RefOut.lean ====
/- The reference's three results over the reals, from the codes and scales of a row. -/
module

public import proofs.«01_k».proof.Proof.RefRead
public import Idealize.ShloMosaic.Lib.Pointwise

@[expose] public section

set_option maxRecDepth 16384

noncomputable section

namespace Cert.ReferenceIdeal.Hand

open Idealize.ShloMosaic Idealize.ShloMosaic.Pointwise
open Cert.ReferenceIdeal Cert.ReferenceIdeal.Gen Cert.Expo

/-- The scaled products, from the codes and the row scales. -/
def prods (c : FVec Ideal S512x64x128 .fp8e4m3) (s : FVec Ideal S512x64x1 .f32) (w : Vec Ideal S8192x6144 .fp8e4m3) (sw : Vec Ideal S64x48 .f32) :
    FVec Ideal S64x512x6144 .f32 :=
  mulf (mulf (matmul dot_S512x64x128_S64x128x6144_S64x512x6144_2_1_0_2_1_0 none c
        (shapeCast S64x128x6144 w shapeCasts_S8192x6144_S64x128x6144 : FVec Ideal S64x128x6144 .fp8e4m3) (constant S64x512x6144 .f32 0x00000000#32))
      (broadcastTo S64x512x6144 (transpose S64x512x1 [1, 0, 2] s transposes_S512x64x1_p1_0_2_S64x512x1) broadcasts_S64x512x1_S64x512x6144))
    (broadcastTo S64x512x6144 (shapeCast S64x1x6144 (shapeCast S64x6144 (broadcastTo S64x48x128
      (shapeCast S64x48x1 sw shapeCasts_S64x48_S64x48x1 : FVec Ideal S64x48x1 .f32) broadcasts_S64x48x1_S64x48x128 : FVec Ideal S64x48x128 .f32) shapeCasts_S64x48x128_S64x6144 : FVec Ideal S64x6144 .f32)
      shapeCasts_S64x6144_S64x1x6144 : FVec Ideal S64x1x6144 .f32) broadcasts_S64x1x6144_S64x512x6144)

theorem pay8_eq (v : Vec Ideal S2x256x8192 .bf16) (w : Vec Ideal S8192x6144 .fp8e4m3) (sw : Vec Ideal S64x48 .f32) :
    k0_pay8 (F := Ideal) v w sw = prods (k0_pay6 v) (k0_pay7 v) w sw := rfl

theorem prods_read (c : FVec Ideal S512x64x128 .fp8e4m3) (s : FVec Ideal S512x64x1 .f32) (w : Vec Ideal S8192x6144 .fp8e4m3) (sw : Vec Ideal S64x48 .f32)
    (g : Fin 64) (r : Fin 512) (n : Fin 6144) :
    prods c s w sw (ix3 g r n) = (∑ x : Fin 128, c (ix3 r g x) * w (ix2 ⟨128 * g.val + x.val, by omega⟩ n)) * s (ix3 r g 0) * sw (ix2 g ⟨n.val / 128, by omega⟩) := by
  have e : ∀ x : Fin 128, g.val * 128 + x.val = 128 * g.val + x.val := fun x => by omega
  pointwise [prods]
  simp only [e]

theorem sum_read (w : FVec Ideal S64x512x6144 .f32) (r : Fin 512) (n : Fin 6144) :
    multiReduction (F := Ideal) .add [0] S512x6144 w 0x00000000#32 reduces_S64x512x6144_S512x6144 (.inl rfl) rfl (ix2 r n)
      = ∑ g : Fin 64, w (ix3 g r n) := by
  refine (Ideal.multiReduction_add_single (a := 0) w 0x00000000#32 reduces_S64x512x6144_S512x6144 (.inl rfl) rfl (ix2 r n)).trans ?_
  refine Finset.sum_congr rfl fun g _ => congrArg w ?_
  funext d
  match d with
  | ⟨0, _⟩ => rfl
  | ⟨1, _⟩ => rfl
  | ⟨2, _⟩ => rfl

theorem last_cast (w : FVec Ideal S512x6144 .f32) (b : Fin 2) (s : Fin 256) (n : Fin 6144) :
    (shapeCast S2x256x6144 (truncf .bf16 w bitsLt_bf16_f32) shapeCasts_S512x6144_S2x256x6144 : FVec Ideal S2x256x6144 .bf16) (ix3 b s n) = w (ix2 ⟨b.val * 256 + s.val, by omega⟩ n) := by
  pointwise []

theorem pay1_eq (w : FVec Ideal S64x512x6144 .f32) : k0_pay1 (F := Ideal) w = shapeCast S2x256x6144 (truncf .bf16 (multiReduction (F := Ideal) .add [0] S512x6144 w 0x00000000#32 reduces_S64x512x6144_S512x6144 (.inl rfl) rfl) bitsLt_bf16_f32 : FVec Ideal S512x6144 .bf16) shapeCasts_S512x6144_S2x256x6144 := rfl

/-- The product at an index, from codes and scales already read. -/
theorem G3_read (v : Vec Ideal S2x256x8192 .bf16) (w : Vec Ideal S8192x6144 .fp8e4m3) (sw : Vec Ideal S64x48 .f32) (b : Fin 2) (s : Fin 256) (n : Fin 6144) :
    G3 v w sw (ix3 b s n) = ∑ g : Fin 64, (∑ x : Fin 128, rcode (rrow v ⟨b.val * 256 + s.val, by omega⟩ g) x * w (ix2 ⟨128 * g.val + x.val, by omega⟩ n))
      * rscale (rrow v ⟨b.val * 256 + s.val, by omega⟩ g) * sw (ix2 g ⟨n.val / 128, by omega⟩) := by
  unfold G3
  rw [pay1_eq, last_cast, sum_read]
  refine Finset.sum_congr rfl fun g _ => ?_
  rw [pay8_eq, prods_read, pay7_read]
  simp only [pay6_read]

theorem pay2_read (c : FVec Ideal S512x64x128 .fp8e4m3) (b : Fin 2) (s : Fin 256) (n : Fin 8192) :
    k0_pay2 (F := Ideal) c (ix3 b s n) = c (ix3 ⟨b.val * 256 + s.val, by omega⟩ ⟨n.val / 128, by omega⟩ ⟨n.val % 128, by omega⟩) := by
  pointwise [k0_pay2]

theorem G4_read (v : Vec Ideal S2x256x8192 .bf16) (w : Vec Ideal S8192x6144 .fp8e4m3) (sw : Vec Ideal S64x48 .f32) (b : Fin 2) (s : Fin 256) (n : Fin 8192) :
    G4 v w sw (ix3 b s n) = rcode (rrow v ⟨b.val * 256 + s.val, by omega⟩ ⟨n.val / 128, by omega⟩) ⟨n.val % 128, by omega⟩ := by
  unfold G4
  rw [pay2_read, pay6_read]

theorem pay3_read (w : FVec Ideal S512x64x1 .f32) (b : Fin 2) (s : Fin 256) (g : Fin 64) :
    k0_pay3 (F := Ideal) w (ix3 b s g) = w (ix3 ⟨b.val * 256 + s.val, by omega⟩ g 0) := by
  pointwise [k0_pay3]

theorem G5_read (v : Vec Ideal S2x256x8192 .bf16) (w : Vec Ideal S8192x6144 .fp8e4m3) (sw : Vec Ideal S64x48 .f32) (b : Fin 2) (s : Fin 256) (g : Fin 64) :
    G5 v w sw (ix3 b s g) = rscale (rrow v ⟨b.val * 256 + s.val, by omega⟩ g) := by
  unfold G5
  rw [pay3_read, pay7_read]

end Cert.ReferenceIdeal.Hand

end
-- ==== Proof.PreRead.lean ====
/- The precondition's meaning over the reals: every row of a group is one both programs quantise alike. -/
module

public import proofs.«01_k».proof.Pre_in_range
public import proofs.«01_k».proof.Proof.RefRead
public import Idealize.ShloMosaic.Lib.Pointwise
public import Idealize.ShloMosaic.Lib.ReduceAll
public import Idealize.ShloMosaic.Lib.KernelVsHost

@[expose] public section

set_option maxRecDepth 16384

noncomputable section

namespace Cert.Pre_in_range

open Idealize.ShloMosaic Idealize.ShloMosaic.Pointwise Cert.Expo Facts

variable [Facts]

/-- The groups in range, from their largest magnitudes. -/
def mask (a : FVec Ideal S2x256x64 .f32) : IVec S2x256x64 1 :=
  ori (cmpf .oeq (mulf a (broadcastInDim S2x256x64 ![] bcast_S_S2x256x64 (constant S_ .f32 0x3B124925#32)))
      (broadcastInDim S2x256x64 ![] bcast_S_S2x256x64 (constant S_ .f32 0x00000000#32)))
    (andi (cmpf .oge (mulf a (broadcastInDim S2x256x64 ![] bcast_S_S2x256x64 (constant S_ .f32 0x3B124925#32)))
        (broadcastInDim S2x256x64 ![] bcast_S_S2x256x64 (constant S_ .f32 0x00400000#32)))
      (cmpf .olt (mulf a (broadcastInDim S2x256x64 ![] bcast_S_S2x256x64 (constant S_ .f32 0x3B124925#32)))
        (broadcastInDim S2x256x64 ![] bcast_S_S2x256x64 (constant S_ .f32 0x7E800000#32))))

/-- The largest magnitudes. -/
def tops (v : FVec Ideal S2x256x64x128 .f32) : FVec Ideal S2x256x64 .f32 :=
  Host.reduce FloatOps.maximumf (Host.absf v) (constant S_ .f32 0xFF800000#32) reducesTo_S2x256x64x128_S2x256x64_d3 h_S_

theorem fn_eq (x : FVec Ideal S2x256x8192 .bf16) (w : FVec Ideal S8192x6144 .fp8e4m3) (sw : FVec Ideal S64x48 .f32) :
    fn (F := Ideal) x w sw = Host.reduce IntOp.andi (mask (tops (shapeCast S2x256x64x128 (extf .f32 x bitsLt_bf16_f32 : FVec Ideal S2x256x8192 .f32) shapeCasts_S2x256x8192_S2x256x64x128)))
      (constantI S_ 1 1#1) reducesTo_S2x256x64_S_d0_1_2 h_S_ := rfl

theorem mask_one (a : FVec Ideal S2x256x64 .f32) (y : S2x256x64.Idx) (h : mask a y = 1#1) :
    a y * cc = 0 ∨ Ideal.ofBits .f32 0x00400000#32 ≤ a y * cc ∧ a y * cc < Ideal.ofBits .f32 0x7E800000#32 := by
  have e0 : Ideal.ofBits .f32 0x00000000#32 = (0 : EReal) := by simp
  have h' : IntOp.ori (Ideal.cmp .oeq (a y * cc) (Ideal.ofBits .f32 0x00000000#32))
      (IntOp.andi (Ideal.cmp .oge (a y * cc) (Ideal.ofBits .f32 0x00400000#32)) (Ideal.cmp .olt (a y * cc) (Ideal.ofBits .f32 0x7E800000#32))) = 1#1 := h
  rw [e0] at h'
  by_cases h1 : a y * cc < Ideal.ofBits .f32 0x7E800000#32 <;> by_cases h2 : a y * cc = 0 <;>
    by_cases h3 : Ideal.ofBits .f32 0x00400000#32 ≤ a y * cc <;>
    simp [Ideal.cmp, IntOp.andi, IntOp.ori, h1, h2, h3] at h' ⊢

theorem tops_read (v : FVec Ideal S2x256x64x128 .f32) (b : Fin 2) (s : Fin 256) (g : Fin 64) :
    tops v (ix3 b s g) = amax (fun k => v (ix4 b s g k)) := by
  have hr : S2x256x64x128.Reduces [3] S2x256x64 := by decide
  unfold tops
  rw [hostReduce_maximumf_eq_multiReduction (Host.absf v) 0xFF800000#32 _ _ hr (.inl rfl) rfl]
  refine (Ideal.multiReduction_maximumf_single (a := 3) (Host.absf v) 0xFF800000#32 hr (.inl rfl) rfl (ix3 b s g)).trans ?_
  refine congrArg (fun f => Finset.fold max (Ideal.ofBits .f32 0xFF800000#32) f Finset.univ) (funext fun k => ?_)
  refine congrArg (Host.absf v) (?_ : _ = ix4 b s g k)
  funext d
  match d with
  | ⟨0, _⟩ => rfl
  | ⟨1, _⟩ => rfl
  | ⟨2, _⟩ => rfl
  | ⟨3, _⟩ => rfl

theorem cut4 (x : FVec Ideal S2x256x8192 .bf16) (b : Fin 2) (s : Fin 256) (g : Fin 64) (k : Fin 128) :
    (shapeCast S2x256x64x128 (extf .f32 x bitsLt_bf16_f32 : FVec Ideal S2x256x8192 .f32) shapeCasts_S2x256x8192_S2x256x64x128) (ix4 b s g k)
      = x (ix3 b s ⟨g.val * 128 + k.val, by omega⟩) := by
  pointwise []

theorem good (x : FVec Ideal S2x256x8192 .bf16) (w : FVec Ideal S8192x6144 .fp8e4m3) (sw : FVec Ideal S64x48 .f32)
    (h : fn (F := Ideal) x w sw = fun _ => 1#1) (r : Fin 512) (g : Fin 64) : Good (Cert.ReferenceIdeal.Hand.rrow x r g) := by
  rw [fn_eq] at h
  have hs : Subsingleton S_.Idx := ⟨fun p q => funext fun d => d.elim0⟩
  have h1 := Host.reduce_andi_all _ _ _ _ (fun d => d.elim0) (congrFun h _) (ix3 ⟨r.val / 256, by omega⟩ ⟨r.val % 256, by omega⟩ g)
  have h2 := mask_one _ _ h1
  rw [tops_read] at h2
  have e : (fun k : Fin 128 => (shapeCast S2x256x64x128 (extf .f32 x bitsLt_bf16_f32 : FVec Ideal S2x256x8192 .f32) shapeCasts_S2x256x8192_S2x256x64x128)
      (ix4 (⟨r.val / 256, by omega⟩ : Fin 2) (⟨r.val % 256, by omega⟩ : Fin 256) g k)) = Cert.ReferenceIdeal.Hand.rrow x r g := by
    funext k
    rw [cut4]
    have e' : g.val * 128 + k.val = 128 * g.val + k.val := by omega
    unfold Cert.ReferenceIdeal.Hand.rrow
    simp only [e']
  rw [e] at h2
  exact h2

end Cert.Pre_in_range

end
-- ==== Proof.Final.lean ====
/- The two programs' results over the reals are equal wherever the precondition holds. -/
module

public import proofs.«01_k».proof.Defs
public import proofs.«01_k».proof.Proof.KerRead
public import proofs.«01_k».proof.Proof.RefOut
public import proofs.«01_k».proof.Proof.PreRead

@[expose] public section

set_option maxRecDepth 16384

noncomputable section

namespace Cert.Pre_in_range

open Idealize.ShloMosaic

theorem facts : Facts := ⟨by decide, by decide, by decide, by decide, by decide, by decide⟩

end Cert.Pre_in_range

namespace Cert.Final

open Idealize.ShloMosaic Idealize.ShloMosaic.Pointwise Idealize.SL.Sem Cert.Expo
open Cert.KernelIdeal.Hand (resY resC resS resY_read resC_read resS_read)
open Cert.ReferenceIdeal.Hand (G3 G4 G5 G3_read G4_read G5_read rrow)

theorem ix3_eq {A B C : Nat} (y : (⟨3, ![A, B, C]⟩ : Shape).Idx) : y = ix3 (y 0 : Fin A) (y 1 : Fin B) (y 2 : Fin C) := by
  funext d
  match d with
  | ⟨0, _⟩ => rfl
  | ⟨1, _⟩ => rfl
  | ⟨2, _⟩ => rfl

variable (m : (ℓ : Loc Cert.KernelIdeal.nD Cert.KernelIdeal.τ Cert.KernelIdeal.sig) → Buf (Elt Ideal) ℓ) (c : Dev Cert.KernelIdeal.nD)

/-- Every row of every group of the first argument is one both programs quantise alike. -/
abbrev AllGood : Prop := ∀ (r : Fin 512) (g : Fin 64), Good (rrow (m ((c.tc : Thread Cert.KernelIdeal.nD Cert.KernelIdeal.τ).loc Cert.KernelIdeal.main_arg0)) r g)

theorem eqY (h : AllGood m c) : (G3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) : Cert.KernelIdeal.S2x256x6144.Idx → EReal) = resY m c := by
  funext y
  rw [ix3_eq y]
  refine (G3_read _ _ _ (y 0) (y 1) (y 2)).trans (Eq.trans ?_ (resY_read m c (y 0) (y 1) (y 2)).symm)
  refine Finset.sum_congr rfl fun g _ => ?_
  refine congrArg₂ (· * ·) (congrArg₂ (· * ·) (Finset.sum_congr rfl fun x _ => congrArg₂ (· * ·) ?_ rfl) ?_) rfl
  · exact (code_agree _ (h _ _) x).symm
  · exact (scale_agree _ (h _ _)).symm

theorem eqC (h : AllGood m c) : (G4 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) : Cert.KernelIdeal.S2x256x8192.Idx → EReal) = resC m c := by
  funext y
  rw [ix3_eq y]
  refine (G4_read _ _ _ (y 0) (y 1) (y 2)).trans (Eq.trans ?_ (resC_read m c (y 0) (y 1) (y 2)).symm)
  exact (code_agree _ (h _ _) _).symm

theorem eqS (h : AllGood m c) : (G5 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) : Cert.KernelIdeal.S2x256x64.Idx → EReal) = resS m c := by
  funext y
  rw [ix3_eq y]
  refine (G5_read _ _ _ (y 0) (y 1) (y 2)).trans (Eq.trans ?_ (resS_read m c (y 0) (y 1) (y 2)).symm)
  exact (scale_agree _ (h _ _)).symm

/-- THE EQUATION: from agreeing arguments both run and end with equal results. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.facts) := by
  intro m g m' g' hpre hargs
  have hgood : ∀ c, AllGood m c := fun c r k => by
    haveI := Cert.Pre_in_range.facts
    exact Cert.Pre_in_range.good _ _ _ (hpre c) r k
  refine ⟨fun c => resY m c, fun c => resC m c, fun c => resS m c, Cert.KernelIdeal.Hand.run_results m g, ?_⟩
  refine (θ_run Cert.ReferenceIdeal.defs _ _).mono (fun r hr c => ?_) (Cert.ReferenceIdeal.Hand.run m' g')
  obtain ⟨h3, h4, h5, ha⟩ := hr c
  obtain ⟨e0, e1, e2⟩ := hargs c
  rw [e0, e1, e2] at h3 h4 h5
  exact ⟨h3.trans (eqY m c (hgood c)), h4.trans (eqC m c (hgood c)), h5.trans (eqS m c (hgood c)), ha⟩

end Cert.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KFrame
public import proofs.«01_k».proof.Proof.Final
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.facts, by
  exact ⟨fun m ρ _ => Cert.Kernel.Hand.frame m ρ, fun m ρ _ => Cert.KernelIdeal.Hand.run_frame m ρ,
    fun m ρ _ => Cert.KernelIdeal.Hand.run_frame m ρ, fun m ρ _ => Cert.ReferenceIdeal.Gen.frame m ρ,
    fun m ρ _ => Cert.ReferenceIdeal.Gen.frame m ρ, trivial, Cert.Final.algebraic⟩⟩

end Cert.Proof

end
